-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpTwo (m : (ℓ : Loc Cert.MlpTwo.nD Cert.MlpTwo.τ Cert.MlpTwo.sig) → Buf (Elt Bits) ℓ) : Prop :=
  True

def Pre_MlpTwoIdeal (m : (ℓ : Loc Cert.MlpTwoIdeal.nD Cert.MlpTwoIdeal.τ Cert.MlpTwoIdeal.sig) → Buf (Elt Ideal) ℓ) : Prop :=
  True

def Pre_MlpTwoRefIdeal (m : (ℓ : Loc Cert.MlpTwoRefIdeal.nD Cert.MlpTwoRefIdeal.τ Cert.MlpTwoRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtRefIdeal (m : (ℓ : Loc Cert.ProjDtRefIdeal.nD Cert.ProjDtRefIdeal.τ Cert.ProjDtRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpTwo [hMlpTwo : Cert.MlpTwo.Facts] : Prop :=
  ∀ (m : (ℓ : Loc Cert.MlpTwo.nD Cert.MlpTwo.τ Cert.MlpTwo.sig) → Buf (Elt Bits) ℓ) (g : Dev Cert.MlpTwo.nD → PrngReg), Pre_MlpTwo m →
    θ_run (Cert.MlpTwo.defs (F := Bits)) (onTc (τ := Cert.MlpTwo.τ) (Cert.MlpTwo.main (F := Bits))) ⟨m, fun _ => 0, g⟩ (fun r => (∀ c : Dev Cert.MlpTwo.nD,
      r.2.mem ((c.tc : Thread Cert.MlpTwo.nD Cert.MlpTwo.τ).loc Cert.MlpTwo.main_arg0) = m ((c.tc : Thread Cert.MlpTwo.nD Cert.MlpTwo.τ).loc Cert.MlpTwo.main_arg0)
      ∧ r.2.mem ((c.tc : Thread Cert.MlpTwo.nD Cert.MlpTwo.τ).loc Cert.MlpTwo.main_arg1) = m ((c.tc : Thread Cert.MlpTwo.nD Cert.MlpTwo.τ).loc Cert.MlpTwo.main_arg1)
      ∧ r.2.mem ((c.tc : Thread Cert.MlpTwo.nD Cert.MlpTwo.τ).loc Cert.MlpTwo.main_arg2) = m ((c.tc : Thread Cert.MlpTwo.nD Cert.MlpTwo.τ).loc Cert.MlpTwo.main_arg2)
      ∧ r.2.mem ((c.tc : Thread Cert.MlpTwo.nD Cert.MlpTwo.τ).loc Cert.MlpTwo.main_arg3) = m ((c.tc : Thread Cert.MlpTwo.nD Cert.MlpTwo.τ).loc Cert.MlpTwo.main_arg3)
      ∧ r.2.mem ((c.tc : Thread Cert.MlpTwo.nD Cert.MlpTwo.τ).loc Cert.MlpTwo.main_arg4) = m ((c.tc : Thread Cert.MlpTwo.nD Cert.MlpTwo.τ).loc Cert.MlpTwo.main_arg4)
      ∧ r.2.mem ((c.tc : Thread Cert.MlpTwo.nD Cert.MlpTwo.τ).loc Cert.MlpTwo.main_arg5) = m ((c.tc : Thread Cert.MlpTwo.nD Cert.MlpTwo.τ).loc Cert.MlpTwo.main_arg5)
      ∧ r.2.mem ((c.tc : Thread Cert.MlpTwo.nD Cert.MlpTwo.τ).loc Cert.MlpTwo.main_arg6) = m ((c.tc : Thread Cert.MlpTwo.nD Cert.MlpTwo.τ).loc Cert.MlpTwo.main_arg6))
      ∧ r.2.sem = fun _ => 0)

def quiescent_MlpTwoIdeal [hMlpTwoIdeal : Cert.MlpTwoIdeal.Facts] : Prop :=
  ∀ (m : (ℓ : Loc Cert.MlpTwoIdeal.nD Cert.MlpTwoIdeal.τ Cert.MlpTwoIdeal.sig) → Buf (Elt Ideal) ℓ) (g : Dev Cert.MlpTwoIdeal.nD → PrngReg), Pre_MlpTwoIdeal m →
    θ_run (Cert.MlpTwoIdeal.defs (F := Ideal)) (onTc (τ := Cert.MlpTwoIdeal.τ) (Cert.MlpTwoIdeal.main (F := Ideal))) ⟨m, fun _ => 0, g⟩ (fun r => (∀ c : Dev Cert.MlpTwoIdeal.nD,
      r.2.mem ((c.tc : Thread Cert.MlpTwoIdeal.nD Cert.MlpTwoIdeal.τ).loc Cert.MlpTwoIdeal.main_arg0) = m ((c.tc : Thread Cert.MlpTwoIdeal.nD Cert.MlpTwoIdeal.τ).loc Cert.MlpTwoIdeal.main_arg0)
      ∧ r.2.mem ((c.tc : Thread Cert.MlpTwoIdeal.nD Cert.MlpTwoIdeal.τ).loc Cert.MlpTwoIdeal.main_arg1) = m ((c.tc : Thread Cert.MlpTwoIdeal.nD Cert.MlpTwoIdeal.τ).loc Cert.MlpTwoIdeal.main_arg1)
      ∧ r.2.mem ((c.tc : Thread Cert.MlpTwoIdeal.nD Cert.MlpTwoIdeal.τ).loc Cert.MlpTwoIdeal.main_arg2) = m ((c.tc : Thread Cert.MlpTwoIdeal.nD Cert.MlpTwoIdeal.τ).loc Cert.MlpTwoIdeal.main_arg2)
      ∧ r.2.mem ((c.tc : Thread Cert.MlpTwoIdeal.nD Cert.MlpTwoIdeal.τ).loc Cert.MlpTwoIdeal.main_arg3) = m ((c.tc : Thread Cert.MlpTwoIdeal.nD Cert.MlpTwoIdeal.τ).loc Cert.MlpTwoIdeal.main_arg3)
      ∧ r.2.mem ((c.tc : Thread Cert.MlpTwoIdeal.nD Cert.MlpTwoIdeal.τ).loc Cert.MlpTwoIdeal.main_arg4) = m ((c.tc : Thread Cert.MlpTwoIdeal.nD Cert.MlpTwoIdeal.τ).loc Cert.MlpTwoIdeal.main_arg4)
      ∧ r.2.mem ((c.tc : Thread Cert.MlpTwoIdeal.nD Cert.MlpTwoIdeal.τ).loc Cert.MlpTwoIdeal.main_arg5) = m ((c.tc : Thread Cert.MlpTwoIdeal.nD Cert.MlpTwoIdeal.τ).loc Cert.MlpTwoIdeal.main_arg5)
      ∧ r.2.mem ((c.tc : Thread Cert.MlpTwoIdeal.nD Cert.MlpTwoIdeal.τ).loc Cert.MlpTwoIdeal.main_arg6) = m ((c.tc : Thread Cert.MlpTwoIdeal.nD Cert.MlpTwoIdeal.τ).loc Cert.MlpTwoIdeal.main_arg6))
      ∧ r.2.sem = fun _ => 0)

def quiescent_MlpTwoRefIdeal [hMlpTwoRefIdeal : Cert.MlpTwoRefIdeal.Facts] : Prop :=
  ∀ (m : (ℓ : Loc Cert.MlpTwoRefIdeal.nD Cert.MlpTwoRefIdeal.τ Cert.MlpTwoRefIdeal.sig) → Buf (Elt Ideal) ℓ) (g : Dev Cert.MlpTwoRefIdeal.nD → PrngReg), Pre_MlpTwoRefIdeal m →
    θ_run (Cert.MlpTwoRefIdeal.defs (F := Ideal)) (onTc (τ := Cert.MlpTwoRefIdeal.τ) (Cert.MlpTwoRefIdeal.main (F := Ideal))) ⟨m, fun _ => 0, g⟩ (fun r => (∀ c : Dev Cert.MlpTwoRefIdeal.nD,
      r.2.mem ((c.tc : Thread Cert.MlpTwoRefIdeal.nD Cert.MlpTwoRefIdeal.τ).loc Cert.MlpTwoRefIdeal.main_arg0) = m ((c.tc : Thread Cert.MlpTwoRefIdeal.nD Cert.MlpTwoRefIdeal.τ).loc Cert.MlpTwoRefIdeal.main_arg0)
      ∧ r.2.mem ((c.tc : Thread Cert.MlpTwoRefIdeal.nD Cert.MlpTwoRefIdeal.τ).loc Cert.MlpTwoRefIdeal.main_arg1) = m ((c.tc : Thread Cert.MlpTwoRefIdeal.nD Cert.MlpTwoRefIdeal.τ).loc Cert.MlpTwoRefIdeal.main_arg1)
      ∧ r.2.mem ((c.tc : Thread Cert.MlpTwoRefIdeal.nD Cert.MlpTwoRefIdeal.τ).loc Cert.MlpTwoRefIdeal.main_arg2) = m ((c.tc : Thread Cert.MlpTwoRefIdeal.nD Cert.MlpTwoRefIdeal.τ).loc Cert.MlpTwoRefIdeal.main_arg2)
      ∧ r.2.mem ((c.tc : Thread Cert.MlpTwoRefIdeal.nD Cert.MlpTwoRefIdeal.τ).loc Cert.MlpTwoRefIdeal.main_arg3) = m ((c.tc : Thread Cert.MlpTwoRefIdeal.nD Cert.MlpTwoRefIdeal.τ).loc Cert.MlpTwoRefIdeal.main_arg3)
      ∧ r.2.mem ((c.tc : Thread Cert.MlpTwoRefIdeal.nD Cert.MlpTwoRefIdeal.τ).loc Cert.MlpTwoRefIdeal.main_arg4) = m ((c.tc : Thread Cert.MlpTwoRefIdeal.nD Cert.MlpTwoRefIdeal.τ).loc Cert.MlpTwoRefIdeal.main_arg4)
      ∧ r.2.mem ((c.tc : Thread Cert.MlpTwoRefIdeal.nD Cert.MlpTwoRefIdeal.τ).loc Cert.MlpTwoRefIdeal.main_arg5) = m ((c.tc : Thread Cert.MlpTwoRefIdeal.nD Cert.MlpTwoRefIdeal.τ).loc Cert.MlpTwoRefIdeal.main_arg5)
      ∧ r.2.mem ((c.tc : Thread Cert.MlpTwoRefIdeal.nD Cert.MlpTwoRefIdeal.τ).loc Cert.MlpTwoRefIdeal.main_arg6) = m ((c.tc : Thread Cert.MlpTwoRefIdeal.nD Cert.MlpTwoRefIdeal.τ).loc Cert.MlpTwoRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1)
      ∧ r.2.mem ((c.tc : Thread Cert.ProjDt.nD Cert.ProjDt.τ).loc Cert.ProjDt.main_arg2) = m ((c.tc : Thread Cert.ProjDt.nD Cert.ProjDt.τ).loc Cert.ProjDt.main_arg2)
      ∧ r.2.mem ((c.tc : Thread Cert.ProjDt.nD Cert.ProjDt.τ).loc Cert.ProjDt.main_arg3) = m ((c.tc : Thread Cert.ProjDt.nD Cert.ProjDt.τ).loc Cert.ProjDt.main_arg3)
      ∧ r.2.mem ((c.tc : Thread Cert.ProjDt.nD Cert.ProjDt.τ).loc Cert.ProjDt.main_arg4) = m ((c.tc : Thread Cert.ProjDt.nD Cert.ProjDt.τ).loc Cert.ProjDt.main_arg4))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1)
      ∧ r.2.mem ((c.tc : Thread Cert.ProjDtIdeal.nD Cert.ProjDtIdeal.τ).loc Cert.ProjDtIdeal.main_arg2) = m ((c.tc : Thread Cert.ProjDtIdeal.nD Cert.ProjDtIdeal.τ).loc Cert.ProjDtIdeal.main_arg2)
      ∧ r.2.mem ((c.tc : Thread Cert.ProjDtIdeal.nD Cert.ProjDtIdeal.τ).loc Cert.ProjDtIdeal.main_arg3) = m ((c.tc : Thread Cert.ProjDtIdeal.nD Cert.ProjDtIdeal.τ).loc Cert.ProjDtIdeal.main_arg3)
      ∧ r.2.mem ((c.tc : Thread Cert.ProjDtIdeal.nD Cert.ProjDtIdeal.τ).loc Cert.ProjDtIdeal.main_arg4) = m ((c.tc : Thread Cert.ProjDtIdeal.nD Cert.ProjDtIdeal.τ).loc Cert.ProjDtIdeal.main_arg4))
      ∧ r.2.sem = fun _ => 0)

def quiescent_ProjDtRefIdeal [hProjDtRefIdeal : Cert.ProjDtRefIdeal.Facts] : Prop :=
  ∀ (m : (ℓ : Loc Cert.ProjDtRefIdeal.nD Cert.ProjDtRefIdeal.τ Cert.ProjDtRefIdeal.sig) → Buf (Elt Ideal) ℓ) (g : Dev Cert.ProjDtRefIdeal.nD → PrngReg), Pre_ProjDtRefIdeal m →
    θ_run (Cert.ProjDtRefIdeal.defs (F := Ideal)) (onTc (τ := Cert.ProjDtRefIdeal.τ) (Cert.ProjDtRefIdeal.main (F := Ideal))) ⟨m, fun _ => 0, g⟩ (fun r => (∀ c : Dev Cert.ProjDtRefIdeal.nD,
      r.2.mem ((c.tc : Thread Cert.ProjDtRefIdeal.nD Cert.ProjDtRefIdeal.τ).loc Cert.ProjDtRefIdeal.main_arg0) = m ((c.tc : Thread Cert.ProjDtRefIdeal.nD Cert.ProjDtRefIdeal.τ).loc Cert.ProjDtRefIdeal.main_arg0)
      ∧ r.2.mem ((c.tc : Thread Cert.ProjDtRefIdeal.nD Cert.ProjDtRefIdeal.τ).loc Cert.ProjDtRefIdeal.main_arg1) = m ((c.tc : Thread Cert.ProjDtRefIdeal.nD Cert.ProjDtRefIdeal.τ).loc Cert.ProjDtRefIdeal.main_arg1)
      ∧ r.2.mem ((c.tc : Thread Cert.ProjDtRefIdeal.nD Cert.ProjDtRefIdeal.τ).loc Cert.ProjDtRefIdeal.main_arg2) = m ((c.tc : Thread Cert.ProjDtRefIdeal.nD Cert.ProjDtRefIdeal.τ).loc Cert.ProjDtRefIdeal.main_arg2)
      ∧ r.2.mem ((c.tc : Thread Cert.ProjDtRefIdeal.nD Cert.ProjDtRefIdeal.τ).loc Cert.ProjDtRefIdeal.main_arg3) = m ((c.tc : Thread Cert.ProjDtRefIdeal.nD Cert.ProjDtRefIdeal.τ).loc Cert.ProjDtRefIdeal.main_arg3)
      ∧ r.2.mem ((c.tc : Thread Cert.ProjDtRefIdeal.nD Cert.ProjDtRefIdeal.τ).loc Cert.ProjDtRefIdeal.main_arg4) = m ((c.tc : Thread Cert.ProjDtRefIdeal.nD Cert.ProjDtRefIdeal.τ).loc Cert.ProjDtRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v11)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v27) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_MlpTwo_MlpTwoIdeal : Prop :=
  True

def algebraic_MlpTwoIdeal_MlpTwoRefIdeal [hMlpTwoIdeal : Cert.MlpTwoIdeal.Facts] [hMlpTwoRefIdeal : Cert.MlpTwoRefIdeal.Facts] : Prop :=
  ∀ (m : (ℓ : Loc Cert.MlpTwoIdeal.nD Cert.MlpTwoIdeal.τ Cert.MlpTwoIdeal.sig) → Buf (Elt Ideal) ℓ) (g : Dev Cert.MlpTwoIdeal.nD → PrngReg)
    (m' : (ℓ : Loc Cert.MlpTwoRefIdeal.nD Cert.MlpTwoRefIdeal.τ Cert.MlpTwoRefIdeal.sig) → Buf (Elt Ideal) ℓ) (g' : Dev Cert.MlpTwoRefIdeal.nD → PrngReg), Pre_MlpTwoIdeal m →
    (∀ c : Dev Cert.MlpTwoIdeal.nD,
      m' ((c.tc : Thread Cert.MlpTwoRefIdeal.nD Cert.MlpTwoRefIdeal.τ).loc Cert.MlpTwoRefIdeal.main_arg0) = m ((c.tc : Thread Cert.MlpTwoIdeal.nD Cert.MlpTwoIdeal.τ).loc Cert.MlpTwoIdeal.main_arg0)
      ∧ m' ((c.tc : Thread Cert.MlpTwoRefIdeal.nD Cert.MlpTwoRefIdeal.τ).loc Cert.MlpTwoRefIdeal.main_arg1) = m ((c.tc : Thread Cert.MlpTwoIdeal.nD Cert.MlpTwoIdeal.τ).loc Cert.MlpTwoIdeal.main_arg1)
      ∧ m' ((c.tc : Thread Cert.MlpTwoRefIdeal.nD Cert.MlpTwoRefIdeal.τ).loc Cert.MlpTwoRefIdeal.main_arg2) = m ((c.tc : Thread Cert.MlpTwoIdeal.nD Cert.MlpTwoIdeal.τ).loc Cert.MlpTwoIdeal.main_arg2)
      ∧ m' ((c.tc : Thread Cert.MlpTwoRefIdeal.nD Cert.MlpTwoRefIdeal.τ).loc Cert.MlpTwoRefIdeal.main_arg3) = m ((c.tc : Thread Cert.MlpTwoIdeal.nD Cert.MlpTwoIdeal.τ).loc Cert.MlpTwoIdeal.main_arg3)
      ∧ m' ((c.tc : Thread Cert.MlpTwoRefIdeal.nD Cert.MlpTwoRefIdeal.τ).loc Cert.MlpTwoRefIdeal.main_arg4) = m ((c.tc : Thread Cert.MlpTwoIdeal.nD Cert.MlpTwoIdeal.τ).loc Cert.MlpTwoIdeal.main_arg4)
      ∧ m' ((c.tc : Thread Cert.MlpTwoRefIdeal.nD Cert.MlpTwoRefIdeal.τ).loc Cert.MlpTwoRefIdeal.main_arg5) = m ((c.tc : Thread Cert.MlpTwoIdeal.nD Cert.MlpTwoIdeal.τ).loc Cert.MlpTwoIdeal.main_arg5)
      ∧ m' ((c.tc : Thread Cert.MlpTwoRefIdeal.nD Cert.MlpTwoRefIdeal.τ).loc Cert.MlpTwoRefIdeal.main_arg6) = m ((c.tc : Thread Cert.MlpTwoIdeal.nD Cert.MlpTwoIdeal.τ).loc Cert.MlpTwoIdeal.main_arg6)) →
    ∃ (v0 : (c : Dev Cert.MlpTwoIdeal.nD) → Buf (Elt Ideal) ((c.tc : Thread Cert.MlpTwoIdeal.nD Cert.MlpTwoIdeal.τ).loc Cert.MlpTwoIdeal.main_v13)),
      θ_run (Cert.MlpTwoIdeal.defs (F := Ideal)) (onTc (τ := Cert.MlpTwoIdeal.τ) (Cert.MlpTwoIdeal.main (F := Ideal))) ⟨m, fun _ => 0, g⟩ (fun r => ∀ c : Dev Cert.MlpTwoIdeal.nD,
          r.2.mem ((c.tc : Thread Cert.MlpTwoIdeal.nD Cert.MlpTwoIdeal.τ).loc Cert.MlpTwoIdeal.main_v13) = v0 c
          ∧ r.2.mem ((c.tc : Thread Cert.MlpTwoIdeal.nD Cert.MlpTwoIdeal.τ).loc Cert.MlpTwoIdeal.main_arg0) = m ((c.tc : Thread Cert.MlpTwoIdeal.nD Cert.MlpTwoIdeal.τ).loc Cert.MlpTwoIdeal.main_arg0)
          ∧ r.2.mem ((c.tc : Thread Cert.MlpTwoIdeal.nD Cert.MlpTwoIdeal.τ).loc Cert.MlpTwoIdeal.main_arg1) = m ((c.tc : Thread Cert.MlpTwoIdeal.nD Cert.MlpTwoIdeal.τ).loc Cert.MlpTwoIdeal.main_arg1)
          ∧ r.2.mem ((c.tc : Thread Cert.MlpTwoIdeal.nD Cert.MlpTwoIdeal.τ).loc Cert.MlpTwoIdeal.main_arg2) = m ((c.tc : Thread Cert.MlpTwoIdeal.nD Cert.MlpTwoIdeal.τ).loc Cert.MlpTwoIdeal.main_arg2)
          ∧ r.2.mem ((c.tc : Thread Cert.MlpTwoIdeal.nD Cert.MlpTwoIdeal.τ).loc Cert.MlpTwoIdeal.main_arg3) = m ((c.tc : Thread Cert.MlpTwoIdeal.nD Cert.MlpTwoIdeal.τ).loc Cert.MlpTwoIdeal.main_arg3)
          ∧ r.2.mem ((c.tc : Thread Cert.MlpTwoIdeal.nD Cert.MlpTwoIdeal.τ).loc Cert.MlpTwoIdeal.main_arg4) = m ((c.tc : Thread Cert.MlpTwoIdeal.nD Cert.MlpTwoIdeal.τ).loc Cert.MlpTwoIdeal.main_arg4)
          ∧ r.2.mem ((c.tc : Thread Cert.MlpTwoIdeal.nD Cert.MlpTwoIdeal.τ).loc Cert.MlpTwoIdeal.main_arg5) = m ((c.tc : Thread Cert.MlpTwoIdeal.nD Cert.MlpTwoIdeal.τ).loc Cert.MlpTwoIdeal.main_arg5)
          ∧ r.2.mem ((c.tc : Thread Cert.MlpTwoIdeal.nD Cert.MlpTwoIdeal.τ).loc Cert.MlpTwoIdeal.main_arg6) = m ((c.tc : Thread Cert.MlpTwoIdeal.nD Cert.MlpTwoIdeal.τ).loc Cert.MlpTwoIdeal.main_arg6))
      ∧ θ_run (Cert.MlpTwoRefIdeal.defs (F := Ideal)) (onTc (τ := Cert.MlpTwoRefIdeal.τ) (Cert.MlpTwoRefIdeal.main (F := Ideal))) ⟨m', fun _ => 0, g'⟩ (fun r => ∀ c : Dev Cert.MlpTwoRefIdeal.nD,
          r.2.mem ((c.tc : Thread Cert.MlpTwoRefIdeal.nD Cert.MlpTwoRefIdeal.τ).loc Cert.MlpTwoRefIdeal.main_v28) = v0 c
          ∧ r.2.mem ((c.tc : Thread Cert.MlpTwoRefIdeal.nD Cert.MlpTwoRefIdeal.τ).loc Cert.MlpTwoRefIdeal.main_arg0) = m' ((c.tc : Thread Cert.MlpTwoRefIdeal.nD Cert.MlpTwoRefIdeal.τ).loc Cert.MlpTwoRefIdeal.main_arg0)
          ∧ r.2.mem ((c.tc : Thread Cert.MlpTwoRefIdeal.nD Cert.MlpTwoRefIdeal.τ).loc Cert.MlpTwoRefIdeal.main_arg1) = m' ((c.tc : Thread Cert.MlpTwoRefIdeal.nD Cert.MlpTwoRefIdeal.τ).loc Cert.MlpTwoRefIdeal.main_arg1)
          ∧ r.2.mem ((c.tc : Thread Cert.MlpTwoRefIdeal.nD Cert.MlpTwoRefIdeal.τ).loc Cert.MlpTwoRefIdeal.main_arg2) = m' ((c.tc : Thread Cert.MlpTwoRefIdeal.nD Cert.MlpTwoRefIdeal.τ).loc Cert.MlpTwoRefIdeal.main_arg2)
          ∧ r.2.mem ((c.tc : Thread Cert.MlpTwoRefIdeal.nD Cert.MlpTwoRefIdeal.τ).loc Cert.MlpTwoRefIdeal.main_arg3) = m' ((c.tc : Thread Cert.MlpTwoRefIdeal.nD Cert.MlpTwoRefIdeal.τ).loc Cert.MlpTwoRefIdeal.main_arg3)
          ∧ r.2.mem ((c.tc : Thread Cert.MlpTwoRefIdeal.nD Cert.MlpTwoRefIdeal.τ).loc Cert.MlpTwoRefIdeal.main_arg4) = m' ((c.tc : Thread Cert.MlpTwoRefIdeal.nD Cert.MlpTwoRefIdeal.τ).loc Cert.MlpTwoRefIdeal.main_arg4)
          ∧ r.2.mem ((c.tc : Thread Cert.MlpTwoRefIdeal.nD Cert.MlpTwoRefIdeal.τ).loc Cert.MlpTwoRefIdeal.main_arg5) = m' ((c.tc : Thread Cert.MlpTwoRefIdeal.nD Cert.MlpTwoRefIdeal.τ).loc Cert.MlpTwoRefIdeal.main_arg5)
          ∧ r.2.mem ((c.tc : Thread Cert.MlpTwoRefIdeal.nD Cert.MlpTwoRefIdeal.τ).loc Cert.MlpTwoRefIdeal.main_arg6) = m' ((c.tc : Thread Cert.MlpTwoRefIdeal.nD Cert.MlpTwoRefIdeal.τ).loc Cert.MlpTwoRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v28)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v54) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_ProjDt_ProjDtIdeal : Prop :=
  True

def algebraic_ProjDtIdeal_ProjDtRefIdeal [hProjDtIdeal : Cert.ProjDtIdeal.Facts] [hProjDtRefIdeal : Cert.ProjDtRefIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtRefIdeal.nD Cert.ProjDtRefIdeal.τ Cert.ProjDtRefIdeal.sig) → Buf (Elt Ideal) ℓ) (g' : Dev Cert.ProjDtRefIdeal.nD → PrngReg), Pre_ProjDtIdeal m →
    (∀ c : Dev Cert.ProjDtIdeal.nD,
      m' ((c.tc : Thread Cert.ProjDtRefIdeal.nD Cert.ProjDtRefIdeal.τ).loc Cert.ProjDtRefIdeal.main_arg0) = m ((c.tc : Thread Cert.ProjDtIdeal.nD Cert.ProjDtIdeal.τ).loc Cert.ProjDtIdeal.main_arg0)
      ∧ m' ((c.tc : Thread Cert.ProjDtRefIdeal.nD Cert.ProjDtRefIdeal.τ).loc Cert.ProjDtRefIdeal.main_arg1) = m ((c.tc : Thread Cert.ProjDtIdeal.nD Cert.ProjDtIdeal.τ).loc Cert.ProjDtIdeal.main_arg1)
      ∧ m' ((c.tc : Thread Cert.ProjDtRefIdeal.nD Cert.ProjDtRefIdeal.τ).loc Cert.ProjDtRefIdeal.main_arg2) = m ((c.tc : Thread Cert.ProjDtIdeal.nD Cert.ProjDtIdeal.τ).loc Cert.ProjDtIdeal.main_arg2)
      ∧ m' ((c.tc : Thread Cert.ProjDtRefIdeal.nD Cert.ProjDtRefIdeal.τ).loc Cert.ProjDtRefIdeal.main_arg3) = m ((c.tc : Thread Cert.ProjDtIdeal.nD Cert.ProjDtIdeal.τ).loc Cert.ProjDtIdeal.main_arg3)
      ∧ m' ((c.tc : Thread Cert.ProjDtRefIdeal.nD Cert.ProjDtRefIdeal.τ).loc Cert.ProjDtRefIdeal.main_arg4) = m ((c.tc : Thread Cert.ProjDtIdeal.nD Cert.ProjDtIdeal.τ).loc Cert.ProjDtIdeal.main_arg4)) →
    ∃ (v0 : (c : Dev Cert.ProjDtIdeal.nD) → Buf (Elt Ideal) ((c.tc : Thread Cert.ProjDtIdeal.nD Cert.ProjDtIdeal.τ).loc Cert.ProjDtIdeal.main_v45_0)) (v1 : (c : Dev Cert.ProjDtIdeal.nD) → Buf (Elt Ideal) ((c.tc : Thread Cert.ProjDtIdeal.nD Cert.ProjDtIdeal.τ).loc Cert.ProjDtIdeal.main_v45_1)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v45_0) = v0 c
          ∧ r.2.mem ((c.tc : Thread Cert.ProjDtIdeal.nD Cert.ProjDtIdeal.τ).loc Cert.ProjDtIdeal.main_v45_1) = v1 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1)
          ∧ r.2.mem ((c.tc : Thread Cert.ProjDtIdeal.nD Cert.ProjDtIdeal.τ).loc Cert.ProjDtIdeal.main_arg2) = m ((c.tc : Thread Cert.ProjDtIdeal.nD Cert.ProjDtIdeal.τ).loc Cert.ProjDtIdeal.main_arg2)
          ∧ r.2.mem ((c.tc : Thread Cert.ProjDtIdeal.nD Cert.ProjDtIdeal.τ).loc Cert.ProjDtIdeal.main_arg3) = m ((c.tc : Thread Cert.ProjDtIdeal.nD Cert.ProjDtIdeal.τ).loc Cert.ProjDtIdeal.main_arg3)
          ∧ r.2.mem ((c.tc : Thread Cert.ProjDtIdeal.nD Cert.ProjDtIdeal.τ).loc Cert.ProjDtIdeal.main_arg4) = m ((c.tc : Thread Cert.ProjDtIdeal.nD Cert.ProjDtIdeal.τ).loc Cert.ProjDtIdeal.main_arg4))
      ∧ θ_run (Cert.ProjDtRefIdeal.defs (F := Ideal)) (onTc (τ := Cert.ProjDtRefIdeal.τ) (Cert.ProjDtRefIdeal.main (F := Ideal))) ⟨m', fun _ => 0, g'⟩ (fun r => ∀ c : Dev Cert.ProjDtRefIdeal.nD,
          r.2.mem ((c.tc : Thread Cert.ProjDtRefIdeal.nD Cert.ProjDtRefIdeal.τ).loc Cert.ProjDtRefIdeal.main_v58) = v0 c
          ∧ r.2.mem ((c.tc : Thread Cert.ProjDtRefIdeal.nD Cert.ProjDtRefIdeal.τ).loc Cert.ProjDtRefIdeal.main_v60) = v1 c
          ∧ r.2.mem ((c.tc : Thread Cert.ProjDtRefIdeal.nD Cert.ProjDtRefIdeal.τ).loc Cert.ProjDtRefIdeal.main_arg0) = m' ((c.tc : Thread Cert.ProjDtRefIdeal.nD Cert.ProjDtRefIdeal.τ).loc Cert.ProjDtRefIdeal.main_arg0)
          ∧ r.2.mem ((c.tc : Thread Cert.ProjDtRefIdeal.nD Cert.ProjDtRefIdeal.τ).loc Cert.ProjDtRefIdeal.main_arg1) = m' ((c.tc : Thread Cert.ProjDtRefIdeal.nD Cert.ProjDtRefIdeal.τ).loc Cert.ProjDtRefIdeal.main_arg1)
          ∧ r.2.mem ((c.tc : Thread Cert.ProjDtRefIdeal.nD Cert.ProjDtRefIdeal.τ).loc Cert.ProjDtRefIdeal.main_arg2) = m' ((c.tc : Thread Cert.ProjDtRefIdeal.nD Cert.ProjDtRefIdeal.τ).loc Cert.ProjDtRefIdeal.main_arg2)
          ∧ r.2.mem ((c.tc : Thread Cert.ProjDtRefIdeal.nD Cert.ProjDtRefIdeal.τ).loc Cert.ProjDtRefIdeal.main_arg3) = m' ((c.tc : Thread Cert.ProjDtRefIdeal.nD Cert.ProjDtRefIdeal.τ).loc Cert.ProjDtRefIdeal.main_arg3)
          ∧ r.2.mem ((c.tc : Thread Cert.ProjDtRefIdeal.nD Cert.ProjDtRefIdeal.τ).loc Cert.ProjDtRefIdeal.main_arg4) = m' ((c.tc : Thread Cert.ProjDtRefIdeal.nD Cert.ProjDtRefIdeal.τ).loc Cert.ProjDtRefIdeal.main_arg4))

def preserves_Swa_SwaIdeal : Prop :=
  IdealRules.named_const.Statement Cert.SwaIdeal.κ "slope_2" .f32 0xBF3504F3#32 ((-((Real.sqrt 2)⁻¹) : ℝ) : EReal)
  ∧ IdealRules.named_const.Statement Cert.SwaIdeal.κ "slope_8" .f32 0xBEB504F3#32 ((-((Real.sqrt 8)⁻¹) : ℝ) : EReal)
  ∧ IdealRules.named_const.Statement Cert.SwaIdeal.κ "slope_32" .f32 0xBE3504F3#32 ((-((Real.sqrt 32)⁻¹) : ℝ) : EReal)
  ∧ IdealRules.named_const.Statement Cert.SwaIdeal.κ "slope_128" .f32 0xBDB504F3#32 ((-((Real.sqrt 128)⁻¹) : ℝ) : EReal)
  ∧ IdealRules.named_const.Statement Cert.SwaIdeal.κ "slope_512" .f32 0xBD3504F3#32 ((-((Real.sqrt 512)⁻¹) : ℝ) : EReal)
  ∧ IdealRules.named_const.Statement Cert.SwaIdeal.κ "slope_2048" .f32 0xBCB504F3#32 ((-((Real.sqrt 2048)⁻¹) : ℝ) : EReal)
  ∧ IdealRules.named_const.Statement Cert.SwaIdeal.κ "slope_8192" .f32 0xBC3504F3#32 ((-((Real.sqrt 8192)⁻¹) : ℝ) : EReal)
  ∧ IdealRules.named_const.Statement Cert.SwaIdeal.κ "slope_32768" .f32 0xBBB504F3#32 ((-((Real.sqrt 32768)⁻¹) : ℝ) : EReal)

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v1)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v1) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v89) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def Claim : Prop :=
  ∃ (hMlp : Cert.Mlp.Facts) (hMlpIdeal : Cert.MlpIdeal.Facts) (hMlpRefIdeal : Cert.MlpRefIdeal.Facts) (hMlpTwo : Cert.MlpTwo.Facts) (hMlpTwoIdeal : Cert.MlpTwoIdeal.Facts) (hMlpTwoRefIdeal : Cert.MlpTwoRefIdeal.Facts) (hProj : Cert.Proj.Facts) (hProjIdeal : Cert.ProjIdeal.Facts) (hProjRefIdeal : Cert.ProjRefIdeal.Facts) (hProjDt : Cert.ProjDt.Facts) (hProjDtIdeal : Cert.ProjDtIdeal.Facts) (hProjDtRefIdeal : Cert.ProjDtRefIdeal.Facts) (hSwa : Cert.Swa.Facts) (hSwaIdeal : Cert.SwaIdeal.Facts) (hSwaRefIdeal : Cert.SwaRefIdeal.Facts),
    quiescent_Mlp (hMlp := hMlp)
    ∧ quiescent_MlpIdeal (hMlpIdeal := hMlpIdeal)
    ∧ quiescent_MlpRefIdeal (hMlpRefIdeal := hMlpRefIdeal)
    ∧ quiescent_MlpTwo (hMlpTwo := hMlpTwo)
    ∧ quiescent_MlpTwoIdeal (hMlpTwoIdeal := hMlpTwoIdeal)
    ∧ quiescent_MlpTwoRefIdeal (hMlpTwoRefIdeal := hMlpTwoRefIdeal)
    ∧ quiescent_Proj (hProj := hProj)
    ∧ quiescent_ProjIdeal (hProjIdeal := hProjIdeal)
    ∧ quiescent_ProjRefIdeal (hProjRefIdeal := hProjRefIdeal)
    ∧ quiescent_ProjDt (hProjDt := hProjDt)
    ∧ quiescent_ProjDtIdeal (hProjDtIdeal := hProjDtIdeal)
    ∧ quiescent_ProjDtRefIdeal (hProjDtRefIdeal := hProjDtRefIdeal)
    ∧ quiescent_Swa (hSwa := hSwa)
    ∧ quiescent_SwaIdeal (hSwaIdeal := hSwaIdeal)
    ∧ quiescent_SwaRefIdeal (hSwaRefIdeal := hSwaRefIdeal)
    ∧ preserves_Mlp_MlpIdeal
    ∧ algebraic_MlpIdeal_MlpRefIdeal (hMlpIdeal := hMlpIdeal) (hMlpRefIdeal := hMlpRefIdeal)
    ∧ preserves_MlpTwo_MlpTwoIdeal
    ∧ algebraic_MlpTwoIdeal_MlpTwoRefIdeal (hMlpTwoIdeal := hMlpTwoIdeal) (hMlpTwoRefIdeal := hMlpTwoRefIdeal)
    ∧ preserves_Proj_ProjIdeal
    ∧ algebraic_ProjIdeal_ProjRefIdeal (hProjIdeal := hProjIdeal) (hProjRefIdeal := hProjRefIdeal)
    ∧ preserves_ProjDt_ProjDtIdeal
    ∧ algebraic_ProjDtIdeal_ProjDtRefIdeal (hProjDtIdeal := hProjDtIdeal) (hProjDtRefIdeal := hProjDtRefIdeal)
    ∧ preserves_Swa_SwaIdeal
    ∧ algebraic_SwaIdeal_SwaRefIdeal (hSwaIdeal := hSwaIdeal) (hSwaRefIdeal := hSwaRefIdeal)
-- ==== Mlp.lean ====
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 18
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024x4096, .f32⟩
  | .hbm, ⟨12, _⟩ => ⟨S1024x4096, .f32⟩
  | .hbm, ⟨13, _⟩ => ⟨S1024x4096, .bf16⟩
  | .hbm, ⟨14, _⟩ => ⟨S1x4096x1024, .f32⟩
  | .hbm, ⟨15, _⟩ => ⟨S4096x1024, .f32⟩
  | .hbm, ⟨16, _⟩ => ⟨S4096x1024, .bf16⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpRefIdeal.lean ====
abbrev S32768x1024 : Shape := ⟨2, ![32768, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S32768x1024, .f32⟩
  | .hbm, ⟨7, _⟩ => ⟨S1024x1024, .f32⟩
  | .hbm, ⟨8, _⟩ => ⟨S32768x1024, .f32⟩
  | .hbm, ⟨9, _⟩ => ⟨S32768x1024, .f32⟩
  | .hbm, ⟨10, _⟩ => ⟨S1x1024, .f32⟩
  | .hbm, ⟨11, _⟩ => ⟨S1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1x1024x4096, .f32⟩
  | .hbm, ⟨29, _⟩ => ⟨S1024x4096, .f32⟩
  | .hbm, ⟨30, _⟩ => ⟨S32768x4096, .f32⟩
  | .hbm, ⟨31, _⟩ => ⟨S_, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S1x4096x1024, .f32⟩
  | .hbm, ⟨36, _⟩ => ⟨S4096x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== MlpTwo.lean ====
abbrev S32768x1024 : Shape := ⟨2, ![32768, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 21
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1x2048x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S2048x1024, .f32⟩
  | .hbm, ⟨8, _⟩ => ⟨S2048x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024x4096, .f32⟩
  | .hbm, ⟨15, _⟩ => ⟨S1024x4096, .f32⟩
  | .hbm, ⟨16, _⟩ => ⟨S1024x4096, .bf16⟩
  | .hbm, ⟨17, _⟩ => ⟨S1x4096x1024, .f32⟩
  | .hbm, ⟨18, _⟩ => ⟨S4096x1024, .f32⟩
  | .hbm, ⟨19, _⟩ => ⟨S4096x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x512, .bf16⟩
  | .local _ .vmem, ⟨10, _⟩ => ⟨S1024x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlpTwoRefIdeal.lean ====
abbrev S32768x1024 : Shape := ⟨2, ![32768, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S32768x2048 : Shape := ⟨2, ![32768, 2048]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1x2048x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S32768x2048, .bf16⟩
  | .hbm, ⟨8, _⟩ => ⟨S32768x2048, .f32⟩
  | .hbm, ⟨9, _⟩ => ⟨S2048x1024, .f32⟩
  | .hbm, ⟨10, _⟩ => ⟨S32768x1024, .f32⟩
  | .hbm, ⟨11, _⟩ => ⟨S32768x1024, .f32⟩
  | .hbm, ⟨12, _⟩ => ⟨S1x1024, .f32⟩
  | .hbm, ⟨13, _⟩ => ⟨S1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1x1024x4096, .f32⟩
  | .hbm, ⟨31, _⟩ => ⟨S1024x4096, .f32⟩
  | .hbm, ⟨32, _⟩ => ⟨S32768x4096, .f32⟩
  | .hbm, ⟨33, _⟩ => ⟨S_, .f32⟩
  | .hbm, ⟨34, _⟩ => ⟨S32768x4096, .f32⟩
  | .hbm, ⟨35, _⟩ => ⟨S32768x4096, .f32⟩
  | .hbm, ⟨36, _⟩ => ⟨S32768x4096, .f32⟩
  | .hbm, ⟨37, _⟩ => ⟨S1x4096x1024, .f32⟩
  | .hbm, ⟨38, _⟩ => ⟨S4096x1024, .f32⟩
  | .hbm, ⟨39, _⟩ => ⟨S32768x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proj.lean ====
abbrev S32768x1024 : Shape := ⟨2, ![32768, 1024]⟩
abbrev S1x1024 : Shape := ⟨2, ![1, 1024]⟩
abbrev S1x1024x3072 : Shape := ⟨3, ![1, 1024, 3072]⟩
abbrev S1x64 : Shape := ⟨2, ![1, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x3072 : Shape := ⟨2, ![1024, 3072]⟩
abbrev S1024 : Shape := ⟨1, ![1024]⟩
abbrev S64 : Shape := ⟨1, ![64]⟩
abbrev S16x64 : Shape := ⟨2, ![16, 64]⟩
abbrev S3072 : Shape := ⟨1, ![3072]⟩
abbrev S1x3072 : Shape := ⟨2, ![1, 3072]⟩
abbrev S32768x3072 : Shape := ⟨2, ![32768, 3072]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 54
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x3072, .f32⟩
  | .hbm, ⟨3, _⟩ => ⟨S1x64, .f32⟩
  | .hbm, ⟨4, _⟩ => ⟨S1x64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S1024x3072, .f32⟩
  | .hbm, ⟨31, _⟩ => ⟨S1024x3072, .bf16⟩
  | .hbm, ⟨32, _⟩ => ⟨S_, .f32⟩
  | .hbm, ⟨33, _⟩ => ⟨S1024, .f32⟩
  | .hbm, ⟨34, _⟩ => ⟨S64, .f32⟩
  | .hbm, ⟨35, _⟩ => ⟨S1x64, .f32⟩
  | .hbm, ⟨36, _⟩ => ⟨S16x64, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S64, .f32⟩
  | .hbm, ⟨42, _⟩ => ⟨S1x64, .f32⟩
  | .hbm, ⟨43, _⟩ => ⟨S16x64, .f32⟩
  | .hbm, ⟨44, _⟩ => ⟨S1024, .f32⟩
  | .hbm, ⟨45, _⟩ => ⟨S3072, .f32⟩
  | .hbm, ⟨46, _⟩ => ⟨S1x3072, .f32⟩
  | .hbm, ⟨47, _⟩ => ⟨S_, .f32⟩
  | .hbm, ⟨48, _⟩ => ⟨S1024, .f32⟩
  | .hbm, ⟨49, _⟩ => ⟨S3072, .f32⟩
  | .hbm, ⟨50, _⟩ => ⟨S1x3072, .f32⟩
  | .hbm, ⟨51, _⟩ => ⟨S1024, .f32⟩
  | .hbm, ⟨52, _⟩ => ⟨S1x1024, .f32⟩
  | .hbm, ⟨53, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let c1_i32 : BitVec 32 := 1#32
  let v8 : BitVec 1 := Scalar.cmpi .eq arg1 c1_i32
  let v11 : BitVec 1 := Scalar.ori v7 v8
  let c2_i32 : BitVec 32 := 2#32
  let v9 : BitVec 1 := Scalar.cmpi .eq arg1 c2_i32
  let v12 : BitVec 1 := Scalar.ori v11 v9
  let c3_i32 : BitVec 32 := 3#32
  let v10 : BitVec 1 := Scalar.cmpi .eq arg1 c3_i32
  let v13 : BitVec 1 := Scalar.ori v12 v10
  let v14 : BitVec 32 := Scalar.extui v13
  let c0_i32_5 : BitVec 32 := 0#32
  let v15 : BitVec 1 := Scalar.cmpi .ne v14 c0_i32_5
  v15

def k0_cond3 (i : grid0.Coords) : BitVec 1 :=
  let arg1 : BitVec 32 := BitVec.ofNat 32 (i 1).val
  let c0_i32_4 : BitVec 32 := 0#32
  let v7 : BitVec 1 := Scalar.cmpi .eq arg1 c0_i32_4
  let c1_i32 : BitVec 32 := 1#32
  let v8 : BitVec 1 := Scalar.cmpi .eq arg1 c1_i32
  let v11 : BitVec 1 := Scalar.ori v7 v8
  let c2_i32 : BitVec 32 := 2#32
  let v9 : BitVec 1 := Scalar.cmpi .eq arg1 c2_i32
  let v12 : BitVec 1 := Scalar.ori v11 v9
  let c3_i32 : BitVec 32 := 3#32
  let v10 : BitVec 1 := Scalar.cmpi .eq arg1 c3_i32
  let v13 : BitVec 1 := Scalar.ori v12 v10
  let v_true : BitVec 1 := 1#1
  let v16 : BitVec 1 := Scalar.xori v13 v_true
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S32768x1024 : Shape := ⟨2, ![32768, 1024]⟩
abbrev S1x1024 : Shape := ⟨2, ![1, 1024]⟩
abbrev S1x1024x3072 : Shape := ⟨3, ![1, 1024, 3072]⟩
abbrev S1x64 : Shape := ⟨2, ![1, 64]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x3072 : Shape := ⟨2, ![1024, 3072]⟩
abbrev S32768x3072 : Shape := ⟨2, ![32768, 3072]⟩
abbrev S32768x16x64 : Shape := ⟨3, ![32768, 16, 64]⟩
abbrev S64 : Shape := ⟨1, ![64]⟩
abbrev S32768x16 : Shape := ⟨2, ![32768, 16]⟩
abbrev S32768x16x1 : Shape := ⟨3, ![32768, 16, 1]⟩
abbrev S1x1x64 : Shape := ⟨3, ![1, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x3072, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x3072, .f32⟩
  | .hbm, ⟨23, _⟩ => ⟨S32768x3072, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x16x64, .f32⟩
  | .hbm, ⟨28, _⟩ => ⟨S64, .f32⟩
  | .hbm, ⟨29, _⟩ => ⟨S32768x16x64, .f32⟩
  | .hbm, ⟨30, _⟩ => ⟨S_, .f32⟩
  | .hbm, ⟨31, _⟩ => ⟨S32768x16, .f32⟩
  | .hbm, ⟨32, _⟩ => ⟨S32768x16x1, .f32⟩
  | .hbm, ⟨33, _⟩ => ⟨S_, .f32⟩
  | .hbm, ⟨34, _⟩ => ⟨S32768x16x1, .f32⟩
  | .hbm, ⟨35, _⟩ => ⟨S32768x16x1, .f32⟩
  | .hbm, ⟨36, _⟩ => ⟨S_, .f32⟩
  | .hbm, ⟨37, _⟩ => ⟨S32768x16x1, .f32⟩
  | .hbm, ⟨38, _⟩ => ⟨S32768x16x1, .f32⟩
  | .hbm, ⟨39, _⟩ => ⟨S32768x16x1, .f32⟩
  | .hbm, ⟨40, _⟩ => ⟨S32768x16x64, .f32⟩
  | .hbm, ⟨41, _⟩ => ⟨S32768x16x64, .f32⟩
  | .hbm, ⟨42, _⟩ => ⟨S1x1x64, .f32⟩
  | .hbm, ⟨43, _⟩ => ⟨S32768x16x64, .f32⟩
  | .hbm, ⟨44, _⟩ => ⟨S32768x16x64, .f32⟩
  | .hbm, ⟨45, _⟩ => ⟨S_, .f32⟩
  | .hbm, ⟨46, _⟩ => ⟨S32768x16x64, .f32⟩
  | .hbm, ⟨47, _⟩ => ⟨S32768x16x64, .f32⟩
  | .hbm, ⟨48, _⟩ => ⟨S32768x16x64, .f32⟩
  | .hbm, ⟨49, _⟩ => ⟨S64, .f32⟩
  | .hbm, ⟨50, _⟩ => ⟨S32768x16x64, .f32⟩
  | .hbm, ⟨51, _⟩ => ⟨S_, .f32⟩
  | .hbm, ⟨52, _⟩ => ⟨S32768x16, .f32⟩
  | .hbm, ⟨53, _⟩ => ⟨S32768x16x1, .f32⟩
  | .hbm, ⟨54, _⟩ => ⟨S_, .f32⟩
  | .hbm, ⟨55, _⟩ => ⟨S32768x16x1, .f32⟩
  | .hbm, ⟨56, _⟩ => ⟨S32768x16x1, .f32⟩
  | .hbm, ⟨57, _⟩ => ⟨S_, .f32⟩
  | .hbm, ⟨58, _⟩ => ⟨S32768x16x1, .f32⟩
  | .hbm, ⟨59, _⟩ => ⟨S32768x16x1, .f32⟩
  | .hbm, ⟨60, _⟩ => ⟨S32768x16x1, .f32⟩
  | .hbm, ⟨61, _⟩ => ⟨S32768x16x64, .f32⟩
  | .hbm, ⟨62, _⟩ => ⟨S32768x16x64, .f32⟩
  | .hbm, ⟨63, _⟩ => ⟨S1x1x64, .f32⟩
  | .hbm, ⟨64, _⟩ => ⟨S32768x16x64, .f32⟩
  | .hbm, ⟨65, _⟩ => ⟨S32768x16x64, .f32⟩
  | .hbm, ⟨66, _⟩ => ⟨S32768x1024, .f32⟩
  | .hbm, ⟨67, _⟩ => ⟨S32768x1024, .f32⟩
  | .hbm, ⟨68, _⟩ => ⟨S32768x3072, .f32⟩
  | .hbm, ⟨69, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== ProjDt.lean ====
abbrev S32768x1024 : Shape := ⟨2, ![32768, 1024]⟩
abbrev S1x1024 : Shape := ⟨2, ![1, 1024]⟩
abbrev S1x1024x4112 : Shape := ⟨3, ![1, 1024, 4112]⟩
abbrev S1x64 : Shape := ⟨2, ![1, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x4112 : Shape := ⟨2, ![1024, 4112]⟩
abbrev S1024x1024 : Shape := ⟨2, ![1024, 1024]⟩
abbrev S1024x512 : Shape := ⟨2, ![1024, 512]⟩
abbrev S1024x256 : Shape := ⟨2, ![1024, 256]⟩
abbrev S1024x4096 : Shape := ⟨2, ![1024, 4096]⟩
abbrev S1024x16 : Shape := ⟨2, ![1024, 16]⟩
abbrev S1024x16x64 : Shape := ⟨3, ![1024, 16, 64]⟩
abbrev S2048 : Shape := ⟨1, ![2048]⟩
abbrev S64 : Shape := ⟨1, ![64]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S4096 : Shape := ⟨1, ![4096]⟩
abbrev S1x4096 : Shape := ⟨2, ![1, 4096]⟩
abbrev S32768x4096 : Shape := ⟨2, ![32768, 4096]⟩
abbrev S1024x1 : Shape := ⟨2, ![1024, 1]⟩

abbrev nBuf : Space → Nat
  | .hbm => 78
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4112, .f32⟩
  | .hbm, ⟨3, _⟩ => ⟨S1x64, .f32⟩
  | .hbm, ⟨4, _⟩ => ⟨S1x64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S1024x4112, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x512, .f32⟩
  | .hbm, ⟨35, _⟩ => ⟨S1024x256, .f32⟩
  | .hbm, ⟨36, _⟩ => ⟨S1024x256, .f32⟩
  | .hbm, ⟨37, _⟩ => ⟨S1024x4096, .f32⟩
  | .hbm, ⟨38, _⟩ => ⟨S1024x4096, .bf16⟩
  | .hbm, ⟨39, _⟩ => ⟨S1024x16, .f32⟩
  | .hbm, ⟨40, _⟩ => ⟨S1024x16x64, .f32⟩
  | .hbm, ⟨41, _⟩ => ⟨S1024x1024, .f32⟩
  | .hbm, ⟨42, _⟩ => ⟨S1024x1024, .bf16⟩
  | .hbm, ⟨43, _⟩ => ⟨S_, .f32⟩
  | .hbm, ⟨44, _⟩ => ⟨S2048, .f32⟩
  | .hbm, ⟨45, _⟩ => ⟨S64, .f32⟩
  | .hbm, ⟨46, _⟩ => ⟨S1x64, .f32⟩
  | .hbm, ⟨47, _⟩ => ⟨S16x64, .f32⟩
  | .hbm, ⟨48, _⟩ => ⟨S1024, .f32⟩
  | .hbm, ⟨49, _⟩ => ⟨S_, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S512, .f32⟩
  | .hbm, ⟨54, _⟩ => ⟨S64, .f32⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S4096, .f32⟩
  | .hbm, ⟨61, _⟩ => ⟨S1x4096, .f32⟩
  | .hbm, ⟨62, _⟩ => ⟨S_, .f32⟩
  | .hbm, ⟨63, _⟩ => ⟨S2048, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S512, .f32⟩
  | .hbm, ⟨68, _⟩ => ⟨S_, .f32⟩
  | .hbm, ⟨69, _⟩ => ⟨S256, .f32⟩
  | .hbm, ⟨70, _⟩ => ⟨S_, .f32⟩
  | .hbm, ⟨71, _⟩ => ⟨S256, .f32⟩
  | .hbm, ⟨72, _⟩ => ⟨S4096, .f32⟩
  | .hbm, ⟨73, _⟩ => ⟨S1x4096, .f32⟩
  | .hbm, ⟨74, _⟩ => ⟨S1024, .f32⟩
  | .hbm, ⟨75, _⟩ => ⟨S1x1024, .f32⟩
  | .hbm, ⟨76, _⟩ => ⟨S32768x4096, .bf16⟩
  | .hbm, ⟨77, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S1024x1024, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_cst_5 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45_0 : Ref sig .tc := ⟨.hbm, 76, rfl⟩
abbrev main_v45_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c4_i32 : BitVec 32 := 4#32
  let v7 : BitVec 1 := Scalar.cmpi .eq arg1 c4_i32
  let c5_i32 : BitVec 32 := 5#32
  let v8 : BitVec 1 := Scalar.cmpi .eq arg1 c5_i32
  let v10 : BitVec 1 := Scalar.ori v7 v8
  let c7_i32 : BitVec 32 := 7#32
  let v9 : BitVec 1 := Scalar.cmpi .eq arg1 c7_i32
  let v11 : BitVec 1 := Scalar.ori v10 v9
  let v12 : BitVec 32 := Scalar.extui v11
  let c0_i32_4 : BitVec 32 := 0#32
  let v13 : BitVec 1 := Scalar.cmpi .ne v12 c0_i32_4
  v13

def k0_cond3 (i : grid0.Coords) : BitVec 1 :=
  let arg1 : BitVec 32 := BitVec.ofNat 32 (i 1).val
  let c4_i32 : BitVec 32 := 4#32
  let v7 : BitVec 1 := Scalar.cmpi .eq arg1 c4_i32
  let c5_i32 : BitVec 32 := 5#32
  let v8 : BitVec 1 := Scalar.cmpi .eq arg1 c5_i32
  let v10 : BitVec 1 := Scalar.ori v7 v8
  let c7_i32 : BitVec 32 := 7#32
  let v9 : BitVec 1 := Scalar.cmpi .eq arg1 c7_i32
  let v11 : BitVec 1 := Scalar.ori v10 v9
  let v_true : BitVec 1 := 1#1
  let v14 : BitVec 1 := Scalar.xori v11 v_true
  let v15 : BitVec 32 := Scalar.extui v14
  let c0_i32_5 : BitVec 32 := 0#32
  let v16 : BitVec 1 := Scalar.cmpi .ne v15 c0_i32_5
  v16

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ProjDtRefIdeal.lean ====
abbrev S32768x1024 : Shape := ⟨2, ![32768, 1024]⟩
abbrev S1x1024 : Shape := ⟨2, ![1, 1024]⟩
abbrev S1x1024x4112 : Shape := ⟨3, ![1, 1024, 4112]⟩
abbrev S1x64 : Shape := ⟨2, ![1, 64]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4112 : Shape := ⟨2, ![1024, 4112]⟩
abbrev S32768x4112 : Shape := ⟨2, ![32768, 4112]⟩
abbrev S32768x512 : Shape := ⟨2, ![32768, 512]⟩
abbrev S32768x16 : Shape := ⟨2, ![32768, 16]⟩
abbrev S32768x256 : Shape := ⟨2, ![32768, 256]⟩
abbrev S32768x16x64 : Shape := ⟨3, ![32768, 16, 64]⟩
abbrev S64 : Shape := ⟨1, ![64]⟩
abbrev S32768x16x1 : Shape := ⟨3, ![32768, 16, 1]⟩
abbrev S1x1x64 : Shape := ⟨3, ![1, 1, 64]⟩
abbrev S32768x4x64 : Shape := ⟨3, ![32768, 4, 64]⟩
abbrev S32768x4 : Shape := ⟨2, ![32768, 4]⟩
abbrev S32768x4x1 : Shape := ⟨3, ![32768, 4, 1]⟩
abbrev S32768x4096 : Shape := ⟨2, ![32768, 4096]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4112, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1024x4112, .f32⟩
  | .hbm, ⟨23, _⟩ => ⟨S32768x4112, .f32⟩
  | .hbm, ⟨24, _⟩ => ⟨S32768x1024, .f32⟩
  | .hbm, ⟨25, _⟩ => ⟨S32768x1024, .f32⟩
  | .hbm, ⟨26, _⟩ => ⟨S32768x512, .f32⟩
  | .hbm, ⟨27, _⟩ => ⟨S32768x16, .f32⟩
  | .hbm, ⟨28, _⟩ => ⟨S32768x1024, .f32⟩
  | .hbm, ⟨29, _⟩ => ⟨S32768x256, .f32⟩
  | .hbm, ⟨30, _⟩ => ⟨S32768x256, .f32⟩
  | .hbm, ⟨31, _⟩ => ⟨S32768x16x64, .f32⟩
  | .hbm, ⟨32, _⟩ => ⟨S64, .f32⟩
  | .hbm, ⟨33, _⟩ => ⟨S32768x16x64, .f32⟩
  | .hbm, ⟨34, _⟩ => ⟨S_, .f32⟩
  | .hbm, ⟨35, _⟩ => ⟨S32768x16, .f32⟩
  | .hbm, ⟨36, _⟩ => ⟨S32768x16x1, .f32⟩
  | .hbm, ⟨37, _⟩ => ⟨S_, .f32⟩
  | .hbm, ⟨38, _⟩ => ⟨S32768x16x1, .f32⟩
  | .hbm, ⟨39, _⟩ => ⟨S32768x16x1, .f32⟩
  | .hbm, ⟨40, _⟩ => ⟨S_, .f32⟩
  | .hbm, ⟨41, _⟩ => ⟨S32768x16x1, .f32⟩
  | .hbm, ⟨42, _⟩ => ⟨S32768x16x1, .f32⟩
  | .hbm, ⟨43, _⟩ => ⟨S32768x16x1, .f32⟩
  | .hbm, ⟨44, _⟩ => ⟨S32768x16x64, .f32⟩
  | .hbm, ⟨45, _⟩ => ⟨S32768x16x64, .f32⟩
  | .hbm, ⟨46, _⟩ => ⟨S1x1x64, .f32⟩
  | .hbm, ⟨47, _⟩ => ⟨S32768x16x64, .f32⟩
  | .hbm, ⟨48, _⟩ => ⟨S32768x16x64, .f32⟩
  | .hbm, ⟨49, _⟩ => ⟨S_, .f32⟩
  | .hbm, ⟨50, _⟩ => ⟨S32768x16x64, .f32⟩
  | .hbm, ⟨51, _⟩ => ⟨S32768x16x64, .f32⟩
  | .hbm, ⟨52, _⟩ => ⟨S32768x4x64, .f32⟩
  | .hbm, ⟨53, _⟩ => ⟨S64, .f32⟩
  | .hbm, ⟨54, _⟩ => ⟨S32768x4x64, .f32⟩
  | .hbm, ⟨55, _⟩ => ⟨S_, .f32⟩
  | .hbm, ⟨56, _⟩ => ⟨S32768x4, .f32⟩
  | .hbm, ⟨57, _⟩ => ⟨S32768x4x1, .f32⟩
  | .hbm, ⟨58, _⟩ => ⟨S_, .f32⟩
  | .hbm, ⟨59, _⟩ => ⟨S32768x4x1, .f32⟩
  | .hbm, ⟨60, _⟩ => ⟨S32768x4x1, .f32⟩
  | .hbm, ⟨61, _⟩ => ⟨S_, .f32⟩
  | .hbm, ⟨62, _⟩ => ⟨S32768x4x1, .f32⟩
  | .hbm, ⟨63, _⟩ => ⟨S32768x4x1, .f32⟩
  | .hbm, ⟨64, _⟩ => ⟨S32768x4x1, .f32⟩
  | .hbm, ⟨65, _⟩ => ⟨S32768x4x64, .f32⟩
  | .hbm, ⟨66, _⟩ => ⟨S32768x4x64, .f32⟩
  | .hbm, ⟨67, _⟩ => ⟨S1x1x64, .f32⟩
  | .hbm, ⟨68, _⟩ => ⟨S32768x4x64, .f32⟩
  | .hbm, ⟨69, _⟩ => ⟨S32768x4x64, .f32⟩
  | .hbm, ⟨70, _⟩ => ⟨S32768x1024, .f32⟩
  | .hbm, ⟨71, _⟩ => ⟨S32768x256, .f32⟩
  | .hbm, ⟨72, _⟩ => ⟨S32768x4096, .f32⟩
  | .hbm, ⟨73, _⟩ => ⟨S32768x4096, .bf16⟩
  | .hbm, ⟨74, _⟩ => ⟨S32768x16x64, .f32⟩
  | .hbm, ⟨75, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Swa.lean ====
abbrev S8x4096x4096 : Shape := ⟨3, ![8, 4096, 4096]⟩
abbrev S1x16 : Shape := ⟨2, ![1, 16]⟩
abbrev S16 : Shape := ⟨1, ![16]⟩
abbrev S8x4096x1024 : Shape := ⟨3, ![8, 4096, 1024]⟩
abbrev S1x128x1024 : Shape := ⟨3, ![1, 128, 1024]⟩
abbrev S1x128x256 : Shape := ⟨3, ![1, 128, 256]⟩
abbrev S16x128x256 : Shape := ⟨3, ![16, 128, 256]⟩
abbrev S128x256 : Shape := ⟨2, ![128, 256]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 4
  | .vmem => 13
  | .smem => 1
  | _ => 0

abbrev bufTy : (tb : Table) → Fin (tcTables nBuf tb) → BufTy
  | .hbm, ⟨0, _⟩ => ⟨S8x4096x4096, .bf16⟩
  | .hbm, ⟨1, _⟩ => ⟨S1x16, .f32⟩
  | .hbm, ⟨2, _⟩ => ⟨S16, .f32⟩
  | .hbm, ⟨3, _⟩ => ⟨S8x4096x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x1024, .bf16⟩
  | .local _ .vmem, ⟨11, _⟩ => ⟨S1x128x1024, .bf16⟩
  | .local _ .vmem, ⟨12, _⟩ => ⟨S16x128x256, .f32⟩
  | .local _ .smem, ⟨0, _⟩ => ⟨S16, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c14_i32 : BitVec 32 := 14#32
  let c0_i32_0 : BitVec 32 := 0#32
  ![arg0.toNat, v1.toNat, c14_i32.toNat]

def cc0_transform_3 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c15_i32 : BitVec 32 := 15#32
  let c0_i32_0 : BitVec 32 := 0#32
  ![arg0.toNat, v1.toNat, c15_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "slope_128" => some ((-((Real.sqrt 128)⁻¹) : ℝ) : EReal)
  | "slope_2" => some ((-((Real.sqrt 2)⁻¹) : ℝ) : EReal)
  | "slope_2048" => some ((-((Real.sqrt 2048)⁻¹) : ℝ) : EReal)
  | "slope_32" => some ((-((Real.sqrt 32)⁻¹) : ℝ) : EReal)
  | "slope_32768" => some ((-((Real.sqrt 32768)⁻¹) : ℝ) : EReal)
  | "slope_512" => some ((-((Real.sqrt 512)⁻¹) : ℝ) : EReal)
  | "slope_8" => some ((-((Real.sqrt 8)⁻¹) : ℝ) : EReal)
  | "slope_8192" => some ((-((Real.sqrt 8192)⁻¹) : ℝ) : EReal)
  | _ => none
-- ==== SwaRefIdeal.lean ====
abbrev S8x4096x4096 : Shape := ⟨3, ![8, 4096, 4096]⟩
abbrev S1x16 : Shape := ⟨2, ![1, 16]⟩
abbrev S8x4096x1024 : Shape := ⟨3, ![8, 4096, 1024]⟩
abbrev S8x32x128x4x4x64 : Shape := ⟨6, ![8, 32, 128, 4, 4, 64]⟩
abbrev S8x4096x256 : Shape := ⟨3, ![8, 4096, 256]⟩
abbrev S8x4096x4x64 : Shape := ⟨4, ![8, 4096, 4, 64]⟩
abbrev S8x32x128x4x64 : Shape := ⟨5, ![8, 32, 128, 4, 64]⟩
abbrev S8x31x128x4x64 : Shape := ⟨5, ![8, 31, 128, 4, 64]⟩
abbrev S_ : Shape := ⟨0, ![]⟩
abbrev S8x32x256x4x64 : Shape := ⟨5, ![8, 32, 256, 4, 64]⟩
abbrev S8x4x32x256x128x4 : Shape := ⟨6, ![8, 4, 32, 256, 128, 4]⟩
abbrev S8x4x4x32x128x256 : Shape := ⟨6, ![8, 4, 4, 32, 128, 256]⟩
abbrev S4096 : Shape := ⟨1, ![4096]⟩
abbrev S32x128 : Shape := ⟨2, ![32, 128]⟩
abbrev S32x1 : Shape := ⟨2, ![32, 1]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S16 : Shape := ⟨1, ![16]⟩
abbrev S1x4x4x1x1x1 : Shape := ⟨6, ![1, 4, 4, 1, 1, 1]⟩
abbrev S1x1x1x32x128x256 : Shape := ⟨6, ![1, 1, 1, 32, 128, 256]⟩
abbrev S1x4x4x32x128x256 : Shape := ⟨6, ![1, 4, 4, 32, 128, 256]⟩
abbrev S1x4x4x1x1 : Shape := ⟨5, ![1, 4, 4, 1, 1]⟩
abbrev S8x4x4x32x128 : Shape := ⟨5, ![8, 4, 4, 32, 128]⟩
abbrev S8x4x4x32x128x1 : Shape := ⟨6, ![8, 4, 4, 32, 128, 1]⟩
abbrev S8x32x4x64x4x128 : Shape := ⟨6, ![8, 32, 4, 64, 4, 128]⟩

abbrev nBuf : Space → Nat
  | .hbm => 144
  | .vmem => 0
  | .smem => 0
  | _ => 0

abbrev hbmTy0_0 (i : Nat) : BufTy := match i % 128 with
  | 0 => ⟨S8x4096x4096, .bf16⟩
  | 1 => ⟨S1x16, .f32⟩
  | 2 => ⟨S8x4096x4096, .f32⟩
  | 3 => ⟨S8x4096x1024, .f32⟩
  | 4 => ⟨S8x32x128x4x4x64, .f32⟩
  | 5 => ⟨S8x4096x256, .f32⟩
  | 6 => ⟨S8x4096x4x64, .f32⟩
  | 7 => ⟨S8x4096x256, .f32⟩
  | 8 => ⟨S8x4096x4x64, .f32⟩
  | 9 => ⟨S8x32x128x4x64, .f32⟩
  | 10 => ⟨S8x31x128x4x64, .f32⟩
  | 11 => ⟨S_, .i32⟩
  | 12 => ⟨S_, .f32⟩
  | 13 => ⟨S8x32x128x4x64, .f32⟩
  | 14 => ⟨S8x32x256x4x64, .f32⟩
  | 15 => ⟨S8x32x128x4x64, .f32⟩
  | 16 => ⟨S8x31x128x4x64, .f32⟩
  | 17 => ⟨S_, .i32⟩
  | 18 => ⟨S_, .f32⟩
  | 19 => ⟨S8x32x128x4x64, .f32⟩
  | 20 => ⟨S8x32x256x4x64, .f32⟩
  | 21 => ⟨S8x4x32x256x128x4, .f32⟩
  | 22 => ⟨S8x4x4x32x128x256, .f32⟩
  | 23 => ⟨S4096, .i32⟩
  | 24 => ⟨S32x128, .i32⟩
  | 25 => ⟨S32x1, .i32⟩
  | 26 => ⟨S_, .i32⟩
  | 27 => ⟨S32x1, .i32⟩
  | 28 => ⟨S32x1, .i32⟩
  | 29 => ⟨S256, .i32⟩
  | 30 => ⟨S1x256, .i32⟩
  | 31 => ⟨S32x256, .i32⟩
  | 32 => ⟨S32x256, .i32⟩
  | 33 => ⟨S32x256, .i32⟩
  | 34 => ⟨S32x128x1, .i32⟩
  | 35 => ⟨S_, .i32⟩
  | 36 => ⟨S_, .i32⟩
  | 37 => ⟨S32x128x1, .i32⟩
  | 38 => ⟨S32x128x1, .i32⟩
  | 39 => ⟨S32x128x1, .i32⟩
  | 40 => ⟨S_, .i32⟩
  | 41 => ⟨S32x128x1, .i32⟩
  | 42 => ⟨S32x128x1, .i1⟩
  | 43 => ⟨S32x128x1, .i32⟩
  | 44 => ⟨S32x128x1, .i32⟩
  | 45 => ⟨S_, .i32⟩
  | 46 => ⟨S32x128x1, .i32⟩
  | 47 => ⟨S32x128x1, .i1⟩
  | 48 => ⟨S32x128x1, .i1⟩
  | 49 => ⟨S_, .i32⟩
  | 50 => ⟨S32x128x1, .i32⟩
  | 51 => ⟨S32x128x1, .i32⟩
  | 52 => ⟨S32x128x1, .i32⟩
  | 53 => ⟨S32x1x256, .i32⟩
  | 54 => ⟨S_, .i32⟩
  | 55 => ⟨S_, .i32⟩
  | 56 => ⟨S32x1x256, .i32⟩
  | 57 => ⟨S32x1x256, .i32⟩
  | 58 => ⟨S32x1x256, .i32⟩
  | 59 => ⟨S_, .i32⟩
  | 60 => ⟨S32x1x256, .i32⟩
  | 61 => ⟨S32x1x256, .i1⟩
  | 62 => ⟨S32x1x256, .i32⟩
  | 63 => ⟨S32x1x256, .i32⟩
  | 64 => ⟨S_, .i32⟩
  | 65 => ⟨S32x1x256, .i32⟩
  | 66 => ⟨S32x1x256, .i1⟩
  | 67 => ⟨S32x1x256, .i1⟩
  | 68 => ⟨S_, .i32⟩
  | 69 => ⟨S32x1x256, .i32⟩
  | 70 => ⟨S32x1x256, .i32⟩
  | 71 => ⟨S32x1x256, .i32⟩
  | 72 => ⟨S32x128x256, .i32⟩
  | 73 => ⟨S32x128x256, .i32⟩
  | 74 => ⟨S32x128x256, .i32⟩
  | 75 => ⟨S32x1x256, .i32⟩
  | 76 => ⟨S_, .i32⟩
  | 77 => ⟨S32x1x256, .i32⟩
  | 78 => ⟨S32x1x256, .i1⟩
  | 79 => ⟨S_, .i32⟩
  | 80 => ⟨S32x128x256, .i32⟩
  | 81 => ⟨S32x128x256, .i1⟩
  | 82 => ⟨S32x128x256, .i1⟩
  | 83 => ⟨S32x128x256, .i1⟩
  | 84 => ⟨S_, .i32⟩
  | 85 => ⟨S32x128x256, .i32⟩
  | 86 => ⟨S32x128x256, .i1⟩
  | 87 => ⟨S32x128x256, .i1⟩
  | 88 => ⟨S32x128x1, .i32⟩
  | 89 => ⟨S32x1x256, .i32⟩
  | 90 => ⟨S32x128x256, .i32⟩
  | 91 => ⟨S32x128x256, .i32⟩
  | 92 => ⟨S32x128x256, .i32⟩
  | 93 => ⟨S32x128x256, .i32⟩
  | 94 => ⟨S32x128x256, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S1x4x4x1x1x1, .f32⟩
  | 109 => ⟨S1x1x1x32x128x256, .f32⟩
  | 110 => ⟨S1x4x4x32x128x256, .f32⟩
  | 111 => ⟨S1x4x4x32x128x256, .f32⟩
  | 112 => ⟨S1x4x4x32x128x256, .f32⟩
  | 113 => ⟨S8x4x4x32x128x256, .f32⟩
  | 114 => ⟨S8x4x4x32x128x256, .f32⟩
  | 115 => ⟨S_, .f32⟩
  | 116 => ⟨S_, .f32⟩
  | 117 => ⟨S8x4x4x32x128x256, .i1⟩
  | 118 => ⟨S8x4x4x32x128x256, .f32⟩
  | 119 => ⟨S8x4x4x32x128x256, .f32⟩
  | 120 => ⟨S16, .f32⟩
  | 121 => ⟨S1x4x4x1x1, .f32⟩
  | 122 => ⟨S_, .f32⟩
  | 123 => ⟨S8x4x4x32x128, .f32⟩
  | 124 => ⟨S8x4x4x32x128, .f32⟩
  | 125 => ⟨S8x4x4x32x128, .f32⟩
  | 126 => ⟨S8x4x4x32x128x1, .f32⟩
  | 127 => ⟨S8x4x4x32x128x256, .f32⟩
  | _ => ⟨S8x4096x4096, .bf16⟩

abbrev hbmTy0_1 (i : Nat) : BufTy := match i % 128 with
  | 0 => ⟨S8x4x4x32x128x256, .f32⟩
  | 1 => ⟨S8x4x4x32x128x256, .f32⟩
  | 2 => ⟨S_, .f32⟩
  | 3 => ⟨S8x4x4x32x128, .f32⟩
  | 4 => ⟨S8x4x4x32x128x1, .f32⟩
  | 5 => ⟨S8x4x4x32x128, .f32⟩
  | 6 => ⟨S8x4x4x32x128, .f32⟩
  | 7 => ⟨S8x4x4x32x128, .f32⟩
  | 8 => ⟨S8x4x4x32x128x1, .f32⟩
  | 9 => ⟨S8x4x4x32x128x1, .f32⟩
  | 10 => ⟨S8x4x4x32x128x256, .f32⟩
  | 11 => ⟨S8x4x4x32x128x256, .f32⟩
  | 12 => ⟨S8x32x4x64x4x128, .f32⟩
  | 13 => ⟨S8x32x128x4x4x64, .f32⟩
  | 14 => ⟨S8x4096x1024, .f32⟩
  | 15 => ⟨S8x4096x1024, .bf16⟩
  | _ => ⟨S8x4096x4096, .bf16⟩

abbrev hbmTy (i : Nat) : BufTy := match i / 128 with
  | 0 => hbmTy0_0 i
  | 1 => hbmTy0_1 i
  | _ => ⟨S8x4096x4096, .bf16⟩

abbrev bufTy : (tb : Table) → Fin (tcTables nBuf tb) → BufTy
  | .hbm, ⟨i, _⟩ => hbmTy i
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_c : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_0 : Ref sig .tc := ⟨.hbm, 68, rfl⟩
abbrev main_call3_v12 : Ref sig .tc := ⟨.hbm, 69, rfl⟩
abbrev main_call3_v13 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_c_4 : Ref sig .tc := ⟨.hbm, 76, rfl⟩
abbrev main_v35 : Ref sig .tc := ⟨.hbm, 77, rfl⟩
abbrev main_v36 : Ref sig .tc := ⟨.hbm, 78, rfl⟩
abbrev main_c_5 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_6 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst : Ref sig .tc := ⟨.hbm, 96, rfl⟩
abbrev main_v52 : Ref sig .tc := ⟨.hbm, 97, rfl⟩
abbrev main_v53 : Ref sig .tc := ⟨.hbm, 98, rfl⟩
abbrev main_cst_7 : Ref sig .tc := ⟨.hbm, 99, rfl⟩
abbrev main_v54 : Ref sig .tc := ⟨.hbm, 100, rfl⟩
abbrev main_v55 : Ref sig .tc := ⟨.hbm, 101, rfl⟩
abbrev main_cst_8 : Ref sig .tc := ⟨.hbm, 102, rfl⟩
abbrev main_v56 : Ref sig .tc := ⟨.hbm, 103, rfl⟩
abbrev main_v57 : Ref sig .tc := ⟨.hbm, 104, rfl⟩
abbrev main_cst_9 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_10 : Ref sig .tc := ⟨.hbm, 115, rfl⟩
abbrev main_call4_v0 : Ref sig .tc := ⟨.hbm, 116, rfl⟩
abbrev main_call4_v1 : Ref sig .tc := ⟨.hbm, 117, rfl⟩
abbrev main_call4_v2 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_11 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_12 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩

abbrev nD : Nat := 1
abbrev τ : Topo := Topo.v7x

variable {F : FTy → Type} [FloatOps F]
-- ==== Proof.Ffn.lean ====
/- The feed-forward block of both layers as one function of the residual sum, and the two facts the two kernels share: what
   the accumulating store adds at one tile of the hidden layer, and what the eight tiles add up to. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Ffn

open Cert.MlpIdeal Cert.MlpIdeal.Gen

/-- A row divided by its root mean square and scaled by the weights. -/
def rms (x w : Fin 1024 → EReal) (q : Fin 1024) : EReal :=
  x q * Ideal.rsqrt (Ideal.div (∑ k, x k * x k) (Ideal.ofBits FTy.f32 0x44800000#32) + Ideal.ofBits FTy.f32 0x358637BD#32) * w q

section

variable (X1 : Fin 32768 → Fin 1024 → EReal) (W : Fin 1024 → EReal) (W1 : Fin 1024 → Fin 4096 → EReal) (W2 : Fin 4096 → Fin 1024 → EReal)

/-- The squared rectified hidden layer. -/
def sq (r : Fin 32768) (l : Fin 4096) : EReal :=
  max (∑ d, rms (X1 r) W d * W1 d l) 0 * max (∑ d, rms (X1 r) W d * W1 d l) 0

/-- The residual sum plus the feed-forward network of its normalized rows. -/
def ffn (r : Fin 32768) (q : Fin 1024) : EReal := X1 r q + ∑ l, sq X1 W W1 r l * W2 l q

/-- The share of tile `f` of the hidden layer (`f < 8`) in the second product. -/
def share (r : Fin 32768) (q : Fin 1024) (f : ℕ) : EReal :=
  ∑ k : Fin 512, sq X1 W W1 r ⟨f % 8 * 512 + k, by omega⟩ * W2 ⟨f % 8 * 512 + k, by omega⟩ q

/-- The eight shares make up the whole second product. -/
theorem sum_share (r : Fin 32768) (q : Fin 1024) : X1 r q + ∑ f ∈ Finset.range 8, share X1 W W1 W2 r q f = ffn X1 W W1 W2 r q := by
  unfold ffn
  congr 1
  rw [Finset.sum_range]
  refine Fin.sum_mul_add_congr fun s k hl => ?_
  have hs : (s : ℕ) % 8 = s := Nat.mod_eq_of_lt s.isLt
  simp only [hs]

/-- The accumulating store over the normalized rows adds the tile's share. -/
theorem pay3_at (f : ℕ) (s : FVec Ideal S512x1024 .bf16) (b4 : FVec Ideal S1024x512 .bf16) (acc : FVec Ideal S512x1024 .f32)
    (b5 : FVec Ideal S512x1024 .bf16) (y : S512x1024.Idx) (r : Fin 32768)
    (hs : ∀ d : Fin 1024, s (ix2 (y 0) d) = rms (X1 r) W d)
    (h4 : ∀ (d : Fin 1024) (k : Fin 512), b4 (ix2 d k) = W1 d ⟨f % 8 * 512 + k, by omega⟩)
    (h5 : ∀ (k : Fin 512) (q : Fin 1024), b5 (ix2 k q) = W2 ⟨f % 8 * 512 + k, by omega⟩ q) :
    k0_pay3 (F := Ideal) s b4 acc b5 y = acc y + share X1 W W1 W2 r (y 1) f := by
  pointwise [k0_pay3]
  simp only [hs, share, sq, h4]
  congr 1
  refine Fin.sum_fin_congr fun k => ?_
  exact congrArg _ (h5 k (y 1))

/-- After point `n`: the scratch holds the normalized rows of the run, the output block the residual sum and the shares of the tiles so far. -/
def Inv (n : ℕ) (o : Vec Ideal S512x1024 .f32) (s : Vec Ideal S512x1024 .bf16) : Prop :=
  ∀ (y : S512x1024.Idx) (r : Fin 32768), (r : ℕ) = n / 8 * 512 + y 0 →
    s y = rms (X1 r) W (y 1) ∧ o y = X1 r (y 1) + ∑ f ∈ Finset.range (n % 8 + 1), share X1 W W1 W2 r (y 1) f

/-- The first point of a run. -/
theorem inv_first (n : ℕ) (h0 : n % 8 = 0) (s : FVec Ideal S512x1024 .bf16) (b4 : FVec Ideal S1024x512 .bf16)
    (acc : FVec Ideal S512x1024 .f32) (b5 : FVec Ideal S512x1024 .bf16)
    (hs : ∀ (y : S512x1024.Idx) (r : Fin 32768), (r : ℕ) = n / 8 * 512 + y 0 → s y = rms (X1 r) W (y 1))
    (ha : ∀ (y : S512x1024.Idx) (r : Fin 32768), (r : ℕ) = n / 8 * 512 + y 0 → acc y = X1 r (y 1))
    (h4 : ∀ (d : Fin 1024) (k : Fin 512), b4 (ix2 d k) = W1 d ⟨n % 8 * 512 + k, by omega⟩)
    (h5 : ∀ (k : Fin 512) (q : Fin 1024), b5 (ix2 k q) = W2 ⟨n % 8 * 512 + k, by omega⟩ q) :
    Inv X1 W W1 W2 n (k0_pay3 (F := Ideal) s b4 acc b5) s := by
  intro y r hr
  refine ⟨hs y r hr, ?_⟩
  rw [pay3_at X1 W W1 W2 n s b4 acc b5 y r (fun d => hs _ r hr) h4 h5, ha y r hr, h0]
  simp [share, h0]

/-- A later point of a run. -/
theorem inv_next (n n' : ℕ) (hn : n' + 1 = n) (h0 : ¬n % 8 = 0) (s : FVec Ideal S512x1024 .bf16) (b4 : FVec Ideal S1024x512 .bf16)
    (acc : FVec Ideal S512x1024 .f32) (b5 : FVec Ideal S512x1024 .bf16) (h : Inv X1 W W1 W2 n' acc s)
    (h4 : ∀ (d : Fin 1024) (k : Fin 512), b4 (ix2 d k) = W1 d ⟨n % 8 * 512 + k, by omega⟩)
    (h5 : ∀ (k : Fin 512) (q : Fin 1024), b5 (ix2 k q) = W2 ⟨n % 8 * 512 + k, by omega⟩ q) :
    Inv X1 W W1 W2 n (k0_pay3 (F := Ideal) s b4 acc b5) s := by
  intro y r hr
  have hd : n' / 8 = n / 8 := by omega
  have hr' : (r : ℕ) = n' / 8 * 512 + y 0 := by rw [hd]; exact hr
  refine ⟨(h y r hr').1, ?_⟩
  rw [pay3_at X1 W W1 W2 n s b4 acc b5 y r (fun d => (h (ix2 (y 0) d) r hr').1) h4 h5, (h y r hr').2]
  have h1 : n % 8 = n' % 8 + 1 := by omega
  have h2 : share X1 W W1 W2 r (y 1) n = share X1 W W1 W2 r (y 1) (n' % 8 + 1) := by
    have hm : (n' % 8 + 1) % 8 = n % 8 := by omega
    simp only [share, hm]
  rw [h2, h1, Finset.sum_range_succ _ (n' % 8 + 1), add_assoc]

end

end Ffn
-- ==== Proof.MlpValue.lean ====
/- The odd layer: the call that multiplies the mixer's result into the residual stream and adds the feed-forward network computes the reference's array. -/
module

public import proofs.«01_k».proof.Proof.Ffn
public import proofs.«01_k».proof.Proof.Gen.MlpIdeal.Value
public import proofs.«01_k».proof.Proof.Gen.MlpRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpIdeal.Value

open Cert.MlpIdeal Cert.MlpIdeal.Gen

variable (m : (ℓ : Loc nD τ sig) → Buf (Elt Ideal) ℓ)

/-- The block index of every window at a point. -/
theorem idx : ∀ t : Fin cfg0.N, win0_0.index t = ![t.val / 8, 0] ∧ win0_1.index t = ![t.val / 8, 0]
    ∧ win0_2.index t = ![0, 0] ∧ win0_3.index t = ![0, 0]
    ∧ win0_4.index t = ![0, t.val % 8] ∧ win0_5.index t = ![t.val % 8, 0] ∧ win0_6.index t = ![t.val / 8, 0] :=
  (by decide +kernel : ∀ t : Fin grid0.N, _)

/-! The argument arrays of the kernel, at their printed types. -/

abbrev A0 (c : Dev nD) : FVec Ideal S32768x1024 .f32 := m ((c : Thread nD τ).loc main_arg0)
abbrev A1 (c : Dev nD) : FVec Ideal S32768x1024 .bf16 := m ((c : Thread nD τ).loc main_arg1)
abbrev A2 (c : Dev nD) : FVec Ideal S1x1024x1024 .f32 := m ((c : Thread nD τ).loc main_arg2)
abbrev A3 (c : Dev nD) : FVec Ideal S2x1024 .f32 := m ((c : Thread nD τ).loc main_arg3)
abbrev A4 (c : Dev nD) : FVec Ideal S2x1024x4096 .f32 := m ((c : Thread nD τ).loc main_arg4)
abbrev A5 (c : Dev nD) : FVec Ideal S2x4096x1024 .f32 := m ((c : Thread nD τ).loc main_arg5)

theorem blkw0 (c : Dev nD) (t : Fin cfg0.N) (y : S1024x1024.Idx) : iblk m c 2 t y = A2 m c (ix3 0 (y 0) (y 1)) := by
  blk_simp [iblk, idx t]
  entry_read
  pointwise
  blk_ext [idx t]

theorem blkn (c : Dev nD) (t : Fin cfg0.N) (y : S1x1024.Idx) : iblk m c 3 t y = A3 m c (ix2 1 (y 1)) := by
  blk_simp [iblk, idx t]
  entry_read
  pointwise
  blk_ext [idx t]

theorem blk1 (c : Dev nD) (t : Fin cfg0.N) (y : S1024x512.Idx) (l : Fin 4096) (hl : (l : ℕ) = t.val % 8 * 512 + y 1) :
    iblk m c 4 t y = A4 m c (ix3 1 (y 0) l) := by
  blk_simp [iblk, idx t]
  entry_read
  pointwise
  blk_ext [idx t]

theorem blk2 (c : Dev nD) (t : Fin cfg0.N) (y : S512x1024.Idx) (l : Fin 4096) (hl : (l : ℕ) = t.val % 8 * 512 + y 0) :
    iblk m c 5 t y = A5 m c (ix3 1 l (y 1)) := by
  blk_simp [iblk, idx t]
  entry_read
  pointwise
  blk_ext [idx t]

/-! The residual sum and the weights, as the reference reads them. -/

def X1 (c : Dev nD) (r : Fin 32768) (q : Fin 1024) : EReal := Cert.MlpRefIdeal.Read.val_main_v3 (F := Ideal) (A0 m c) (A1 m c) (A2 m c) (ix2 r q)
def WN (c : Dev nD) (q : Fin 1024) : EReal := A3 m c (ix2 1 q)
def W1 (c : Dev nD) (d : Fin 1024) (l : Fin 4096) : EReal := A4 m c (ix3 1 d l)
def W2 (c : Dev nD) (l : Fin 4096) (q : Fin 1024) : EReal := A5 m c (ix3 1 l q)

theorem pay1_at (c : Dev nD) (t : Fin cfg0.N) (y : S512x1024.Idx) (r : Fin 32768) (hr : (r : ℕ) = t.val / 8 * 512 + y 0) :
    k0_pay1 (F := Ideal) (iblk m c 0 t) (iblk m c 1 t) (iblk m c 2 t) y = X1 m c r (y 1) := by
  unfold X1
  pointwise [k0_pay1, blkw0, Cert.MlpRefIdeal.Read.val_main_v3, Cert.MlpRefIdeal.Read.val_main_v2, Cert.MlpRefIdeal.Read.val_main_v1, Cert.MlpRefIdeal.Read.val_main_v0]
  blk_point [iblk, V, idx t]

theorem pay2_at (c : Dev nD) (t : Fin cfg0.N) (y : S512x1024.Idx) (r : Fin 32768) (hr : (r : ℕ) = t.val / 8 * 512 + y 0) :
    k0_pay2 (F := Ideal) (iblk m c 0 t) (iblk m c 1 t) (iblk m c 2 t) (iblk m c 3 t) y = Ffn.rms (X1 m c r) (WN m c) (y 1) := by
  have h : ∀ x : Fin 1024, k0_pay1 (F := Ideal) (iblk m c 0 t) (iblk m c 1 t) (iblk m c 2 t) (ix2 (y 0) x) = X1 m c r x :=
    fun x => pay1_at m c t _ r (by simpa using hr)
  pointwise [k0_pay2, blkn]
  simp only [h]
  rw [pay1_at m c t y r hr]
  rfl

/-- The reference's result is the feed-forward block of its residual sum. -/
theorem ref_at (c : Dev nD) (r : Fin 32768) (q : Fin 1024) :
    Cert.MlpRefIdeal.Read.val_main_v27 (F := Ideal) (A0 m c) (A1 m c) (A2 m c) (A3 m c) (A4 m c) (A5 m c) (ix2 r q) = Ffn.ffn (X1 m c) (WN m c) (W1 m c) (W2 m c) r q := by
  pointwise [Cert.MlpRefIdeal.Read.val_main_v27, Cert.MlpRefIdeal.Read.val_main_v26, Cert.MlpRefIdeal.Read.val_main_v25, Cert.MlpRefIdeal.Read.val_main_v24, Cert.MlpRefIdeal.Read.val_main_v23, Cert.MlpRefIdeal.Read.val_main_v22, Cert.MlpRefIdeal.Read.val_main_v21, Cert.MlpRefIdeal.Read.val_main_v20, Cert.MlpRefIdeal.Read.val_main_v19, Cert.MlpRefIdeal.Read.val_main_v18, Cert.MlpRefIdeal.Read.val_main_v17, Cert.MlpRefIdeal.Read.val_main_v16, Cert.MlpRefIdeal.Read.val_main_v15, Cert.MlpRefIdeal.Read.val_main_v14, Cert.MlpRefIdeal.Read.val_main_v13, Cert.MlpRefIdeal.Read.val_main_v12, Cert.MlpRefIdeal.Read.val_main_v11, Cert.MlpRefIdeal.Read.val_main_v10, Cert.MlpRefIdeal.Read.val_main_v9, Cert.MlpRefIdeal.Read.val_main_v8, Cert.MlpRefIdeal.Read.val_main_v7, Cert.MlpRefIdeal.Read.val_main_v6, Cert.MlpRefIdeal.Read.val_main_v5, Cert.MlpRefIdeal.Read.val_main_v4, Cert.MlpRefIdeal.Read.val_main_cst, Cert.MlpRefIdeal.Read.val_main_cst_0, Cert.MlpRefIdeal.Read.val_main_cst_1, Cert.MlpRefIdeal.Read.val_main_call0_v0, Cert.MlpRefIdeal.Read.val_main_call0_cst]
  rfl

theorem inv_A (c : Dev nD) (t : Fin cfg0.N) (h0 : t.val % 8 = 0) :
    Ffn.Inv (X1 m c) (WN m c) (W1 m c) (W2 m c) t.val (outsAt0 m c t.val t.isLt).1 (outsAt0 m c t.val t.isLt).2 := by
  have ho : (outsAt0 m c t.val t.isLt).1 = k0_pay3 (F := Ideal) (k0_pay2 (iblk m c 0 t) (iblk m c 1 t) (iblk m c 2 t) (iblk m c 3 t)) (iblk m c 4 t)
      (k0_pay1 (iblk m c 0 t) (iblk m c 1 t) (iblk m c 2 t)) (iblk m c 5 t) := by
    rw [outsAt0_A m c t h0]; frame_out
  have hs : (outsAt0 m c t.val t.isLt).2 = k0_pay2 (F := Ideal) (iblk m c 0 t) (iblk m c 1 t) (iblk m c 2 t) (iblk m c 3 t) := by
    rw [outsAt0_A m c t h0]; frame_out
  rw [ho, hs]
  exact Ffn.inv_first (X1 m c) (WN m c) (W1 m c) (W2 m c) t.val h0 _ _ _ _ (pay2_at m c t) (pay1_at m c t)
    (fun d k => blk1 m c t (ix2 d k) _ rfl) (fun k q => blk2 m c t (ix2 k q) _ rfl)

theorem inv (c : Dev nD) : ∀ (n : ℕ) (t : Fin cfg0.N), t.val = n →
    Ffn.Inv (X1 m c) (WN m c) (W1 m c) (W2 m c) t.val (outsAt0 m c t.val t.isLt).1 (outsAt0 m c t.val t.isLt).2
  | 0, t, hn => inv_A m c t (by omega)
  | n + 1, t, hn => by
    by_cases h0 : t.val % 8 = 0
    · exact inv_A m c t h0
    · have ih := inv c n ⟨t.val - 1, Nat.lt_of_le_of_lt (Nat.sub_le _ _) t.isLt⟩ (by simp [hn])
      have ho : (outsAt0 m c t.val t.isLt).1 = k0_pay3 (F := Ideal) (outsAt0 m c (t.val - 1) (Nat.lt_of_le_of_lt (Nat.sub_le _ _) t.isLt)).2
          (iblk m c 4 t) (outsAt0 m c (t.val - 1) (Nat.lt_of_le_of_lt (Nat.sub_le _ _) t.isLt)).1 (iblk m c 5 t) := by
        rw [outsAt0_B m c t h0]; frame_out; rw [read_unread_whole]
      have hs : (outsAt0 m c t.val t.isLt).2 = (outsAt0 m c (t.val - 1) (Nat.lt_of_le_of_lt (Nat.sub_le _ _) t.isLt)).2 := by
        rw [outsAt0_B m c t h0]; rfl
      rw [ho, hs]
      exact Ffn.inv_next (X1 m c) (WN m c) (W1 m c) (W2 m c) t.val _ (by simp [hn]) h0 _ _ _ _ ih
        (fun d k => blk1 m c t (ix2 d k) _ rfl) (fun k q => blk2 m c t (ix2 k q) _ rfl)

/-- The kernel's result array is the reference's. -/
theorem final (c : Dev nD) : (dats m 0 c).arrAt 6 cfg0.N = Cert.MlpRefIdeal.Read.val_main_v27 (F := Ideal) (A0 m c) (A1 m c) (A2 m c) (A3 m c) (A4 m c) (A5 m c) := by
  refine (dats m 0 c).arrAt_eq_of_covers 6 _ (by decide +kernel) fun t hf y => ?_
  have h7 := (flush0_6 t).mp hf
  have hN : t.val < 512 := lt_of_lt_of_eq t.isLt N_0
  have hy : (y 0 : ℕ) < 512 := (y 0).isLt
  blk_simp
  rw [after0_6]
  have h := (inv m c t.val t rfl y ⟨t.val / 8 * 512 + y 0, by omega⟩ rfl).2
  rw [h7] at h
  rw [h]
  have he : ((cfg0.win 6).blk t).view.emb y = ix2 ⟨t.val / 8 * 512 + y 0, by omega⟩ (y 1) := by
    blk_ext [idx t]
  exact (Ffn.sum_share _ _ _ _ _ _).trans ((ref_at m c ⟨t.val / 8 * 512 + y 0, by omega⟩ (y 1)).symm.trans (congrArg _ he.symm))

end Cert.MlpIdeal.Value
-- ==== Proof.MlpTwoValue.lean ====
/- The even layer: the call that multiplies the results of the two mixers into the residual stream and adds the feed-forward network computes
   the reference's array, which multiplies the two side by side. -/
module

public import proofs.«01_k».proof.Proof.Ffn
public import proofs.«01_k».proof.Proof.Gen.MlpTwoIdeal.Value
public import proofs.«01_k».proof.Proof.Gen.MlpTwoRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlpTwoIdeal.Value

open Cert.MlpTwoIdeal Cert.MlpTwoIdeal.Gen

variable (m : (ℓ : Loc nD τ sig) → Buf (Elt Ideal) ℓ)

/-- The block index of every window at a point. -/
theorem idx : ∀ t : Fin cfg0.N, win0_0.index t = ![t.val / 8, 0] ∧ win0_1.index t = ![t.val / 8, 0] ∧ win0_2.index t = ![t.val / 8, 0]
    ∧ win0_3.index t = ![0, 0] ∧ win0_4.index t = ![0, 0] ∧ win0_5.index t = ![0, 0]
    ∧ win0_6.index t = ![0, t.val % 8] ∧ win0_7.index t = ![t.val % 8, 0] ∧ win0_8.index t = ![t.val / 8, 0] :=
  (by decide +kernel : ∀ t : Fin grid0.N, _)

/-! The argument arrays of the kernel, at their printed types. -/

abbrev A0 (c : Dev nD) : FVec Ideal S32768x1024 .f32 := m ((c : Thread nD τ).loc main_arg0)
abbrev A1 (c : Dev nD) : FVec Ideal S32768x1024 .bf16 := m ((c : Thread nD τ).loc main_arg1)
abbrev A2 (c : Dev nD) : FVec Ideal S32768x1024 .bf16 := m ((c : Thread nD τ).loc main_arg2)
abbrev A3 (c : Dev nD) : FVec Ideal S1x2048x1024 .f32 := m ((c : Thread nD τ).loc main_arg3)
abbrev A4 (c : Dev nD) : FVec Ideal S2x1024 .f32 := m ((c : Thread nD τ).loc main_arg4)
abbrev A5 (c : Dev nD) : FVec Ideal S2x1024x4096 .f32 := m ((c : Thread nD τ).loc main_arg5)
abbrev A6 (c : Dev nD) : FVec Ideal S2x4096x1024 .f32 := m ((c : Thread nD τ).loc main_arg6)

theorem blkw0 (c : Dev nD) (t : Fin cfg0.N) (y : S1024x1024.Idx) (r : Fin 2048) (hr : (r : ℕ) = y 0) : iblk m c 3 t y = A3 m c (ix3 0 r (y 1)) := by
  blk_simp [iblk, idx t]
  entry_read
  pointwise
  blk_ext [idx t]

theorem blkw1 (c : Dev nD) (t : Fin cfg0.N) (y : S1024x1024.Idx) (r : Fin 2048) (hr : (r : ℕ) = 1024 + y 0) : iblk m c 4 t y = A3 m c (ix3 0 r (y 1)) := by
  blk_simp [iblk, idx t]
  entry_read
  pointwise
  blk_ext [idx t]

theorem blkn (c : Dev nD) (t : Fin cfg0.N) (y : S1x1024.Idx) : iblk m c 5 t y = A4 m c (ix2 0 (y 1)) := by
  blk_simp [iblk, idx t]
  entry_read
  pointwise
  blk_ext [idx t]

theorem blk1 (c : Dev nD) (t : Fin cfg0.N) (y : S1024x512.Idx) (l : Fin 4096) (hl : (l : ℕ) = t.val % 8 * 512 + y 1) :
    iblk m c 6 t y = A5 m c (ix3 0 (y 0) l) := by
  blk_simp [iblk, idx t]
  entry_read
  pointwise
  blk_ext [idx t]

theorem blk2 (c : Dev nD) (t : Fin cfg0.N) (y : S512x1024.Idx) (l : Fin 4096) (hl : (l : ℕ) = t.val % 8 * 512 + y 0) :
    iblk m c 7 t y = A6 m c (ix3 0 l (y 1)) := by
  blk_simp [iblk, idx t]
  entry_read
  pointwise
  blk_ext [idx t]

/-! The residual sum and the weights, as the reference reads them. -/

def X1 (c : Dev nD) (r : Fin 32768) (q : Fin 1024) : EReal := Cert.MlpTwoRefIdeal.Read.val_main_v4 (F := Ideal) (A0 m c) (A1 m c) (A2 m c) (A3 m c) (ix2 r q)
def WN (c : Dev nD) (q : Fin 1024) : EReal := A4 m c (ix2 0 q)
def W1 (c : Dev nD) (d : Fin 1024) (l : Fin 4096) : EReal := A5 m c (ix3 0 d l)
def W2 (c : Dev nD) (l : Fin 4096) (q : Fin 1024) : EReal := A6 m c (ix3 0 l q)

theorem pay1_at (c : Dev nD) (t : Fin cfg0.N) (y : S512x1024.Idx) (r : Fin 32768) (hr : (r : ℕ) = t.val / 8 * 512 + y 0) :
    k0_pay1 (F := Ideal) (iblk m c 0 t) (iblk m c 1 t) (iblk m c 3 t) (iblk m c 2 t) (iblk m c 4 t) y = X1 m c r (y 1) := by
  unfold X1
  pointwise [k0_pay1, Cert.MlpTwoRefIdeal.Read.val_main_v4, Cert.MlpTwoRefIdeal.Read.val_main_v3, Cert.MlpTwoRefIdeal.Read.val_main_v2, Cert.MlpTwoRefIdeal.Read.val_main_v1, Cert.MlpTwoRefIdeal.Read.val_main_v0]
  rw [← add_assoc]
  congr 1
  · congr 1
    · blk_point [iblk, V, idx t]
    · refine Fin.sum_fin_congr fun k => ?_
      refine congrArg₂ (· * ·) ?_ (blkw0 m c t _ _ rfl)
      blk_point [iblk, V, idx t]
  · refine Fin.sum_fin_congr fun k => ?_
    refine congrArg₂ (· * ·) ?_ (blkw1 m c t _ _ rfl)
    blk_point [iblk, V, idx t]

theorem pay2_at (c : Dev nD) (t : Fin cfg0.N) (y : S512x1024.Idx) (r : Fin 32768) (hr : (r : ℕ) = t.val / 8 * 512 + y 0) :
    k0_pay2 (F := Ideal) (iblk m c 0 t) (iblk m c 1 t) (iblk m c 3 t) (iblk m c 2 t) (iblk m c 4 t) (iblk m c 5 t) y = Ffn.rms (X1 m c r) (WN m c) (y 1) := by
  have h : ∀ x : Fin 1024, k0_pay1 (F := Ideal) (iblk m c 0 t) (iblk m c 1 t) (iblk m c 3 t) (iblk m c 2 t) (iblk m c 4 t) (ix2 (y 0) x) = X1 m c r x :=
    fun x => pay1_at m c t _ r (by simpa using hr)
  pointwise [k0_pay2, blkn]
  simp only [h]
  rw [pay1_at m c t y r hr]
  rfl

/-- The reference's result is the feed-forward block of its residual sum. -/
theorem ref_at (c : Dev nD) (r : Fin 32768) (q : Fin 1024) :
    Cert.MlpTwoRefIdeal.Read.val_main_v28 (F := Ideal) (A0 m c) (A1 m c) (A2 m c) (A3 m c) (A4 m c) (A5 m c) (A6 m c) (ix2 r q) = Ffn.ffn (X1 m c) (WN m c) (W1 m c) (W2 m c) r q := by
  pointwise [Cert.MlpTwoRefIdeal.Read.val_main_v28, Cert.MlpTwoRefIdeal.Read.val_main_v27, Cert.MlpTwoRefIdeal.Read.val_main_v26, Cert.MlpTwoRefIdeal.Read.val_main_v25, Cert.MlpTwoRefIdeal.Read.val_main_v24, Cert.MlpTwoRefIdeal.Read.val_main_v23, Cert.MlpTwoRefIdeal.Read.val_main_v22, Cert.MlpTwoRefIdeal.Read.val_main_v21, Cert.MlpTwoRefIdeal.Read.val_main_v20, Cert.MlpTwoRefIdeal.Read.val_main_v19, Cert.MlpTwoRefIdeal.Read.val_main_v18, Cert.MlpTwoRefIdeal.Read.val_main_v17, Cert.MlpTwoRefIdeal.Read.val_main_v16, Cert.MlpTwoRefIdeal.Read.val_main_v15, Cert.MlpTwoRefIdeal.Read.val_main_v14, Cert.MlpTwoRefIdeal.Read.val_main_v13, Cert.MlpTwoRefIdeal.Read.val_main_v12, Cert.MlpTwoRefIdeal.Read.val_main_v11, Cert.MlpTwoRefIdeal.Read.val_main_v10, Cert.MlpTwoRefIdeal.Read.val_main_v9, Cert.MlpTwoRefIdeal.Read.val_main_v8, Cert.MlpTwoRefIdeal.Read.val_main_v7, Cert.MlpTwoRefIdeal.Read.val_main_v6, Cert.MlpTwoRefIdeal.Read.val_main_v5, Cert.MlpTwoRefIdeal.Read.val_main_cst, Cert.MlpTwoRefIdeal.Read.val_main_cst_0, Cert.MlpTwoRefIdeal.Read.val_main_cst_1, Cert.MlpTwoRefIdeal.Read.val_main_call0_v0, Cert.MlpTwoRefIdeal.Read.val_main_call0_cst]
  rfl

theorem inv_A (c : Dev nD) (t : Fin cfg0.N) (h0 : t.val % 8 = 0) :
    Ffn.Inv (X1 m c) (WN m c) (W1 m c) (W2 m c) t.val (outsAt0 m c t.val t.isLt).1 (outsAt0 m c t.val t.isLt).2 := by
  have ho : (outsAt0 m c t.val t.isLt).1 = k0_pay3 (F := Ideal) (k0_pay2 (iblk m c 0 t) (iblk m c 1 t) (iblk m c 3 t) (iblk m c 2 t) (iblk m c 4 t) (iblk m c 5 t)) (iblk m c 6 t)
      (k0_pay1 (iblk m c 0 t) (iblk m c 1 t) (iblk m c 3 t) (iblk m c 2 t) (iblk m c 4 t)) (iblk m c 7 t) := by
    rw [outsAt0_A m c t h0]; frame_out
  have hs : (outsAt0 m c t.val t.isLt).2 = k0_pay2 (F := Ideal) (iblk m c 0 t) (iblk m c 1 t) (iblk m c 3 t) (iblk m c 2 t) (iblk m c 4 t) (iblk m c 5 t) := by
    rw [outsAt0_A m c t h0]; frame_out
  rw [ho, hs]
  exact Ffn.inv_first (X1 m c) (WN m c) (W1 m c) (W2 m c) t.val h0 _ _ _ _ (pay2_at m c t) (pay1_at m c t)
    (fun d k => blk1 m c t (ix2 d k) _ rfl) (fun k q => blk2 m c t (ix2 k q) _ rfl)

theorem inv (c : Dev nD) : ∀ (n : ℕ) (t : Fin cfg0.N), t.val = n →
    Ffn.Inv (X1 m c) (WN m c) (W1 m c) (W2 m c) t.val (outsAt0 m c t.val t.isLt).1 (outsAt0 m c t.val t.isLt).2
  | 0, t, hn => inv_A m c t (by omega)
  | n + 1, t, hn => by
    by_cases h0 : t.val % 8 = 0
    · exact inv_A m c t h0
    · have ih := inv c n ⟨t.val - 1, Nat.lt_of_le_of_lt (Nat.sub_le _ _) t.isLt⟩ (by simp [hn])
      have ho : (outsAt0 m c t.val t.isLt).1 = k0_pay3 (F := Ideal) (outsAt0 m c (t.val - 1) (Nat.lt_of_le_of_lt (Nat.sub_le _ _) t.isLt)).2
          (iblk m c 6 t) (outsAt0 m c (t.val - 1) (Nat.lt_of_le_of_lt (Nat.sub_le _ _) t.isLt)).1 (iblk m c 7 t) := by
        rw [outsAt0_B m c t h0]; frame_out; rw [read_unread_whole]
      have hs : (outsAt0 m c t.val t.isLt).2 = (outsAt0 m c (t.val - 1) (Nat.lt_of_le_of_lt (Nat.sub_le _ _) t.isLt)).2 := by
        rw [outsAt0_B m c t h0]; rfl
      rw [ho, hs]
      exact Ffn.inv_next (X1 m c) (WN m c) (W1 m c) (W2 m c) t.val _ (by simp [hn]) h0 _ _ _ _ ih
        (fun d k => blk1 m c t (ix2 d k) _ rfl) (fun k q => blk2 m c t (ix2 k q) _ rfl)

/-- The kernel's result array is the reference's. -/
theorem final (c : Dev nD) : (dats m 0 c).arrAt 8 cfg0.N = Cert.MlpTwoRefIdeal.Read.val_main_v28 (F := Ideal) (A0 m c) (A1 m c) (A2 m c) (A3 m c) (A4 m c) (A5 m c) (A6 m c) := by
  refine (dats m 0 c).arrAt_eq_of_covers 8 _ (by decide +kernel) fun t hf y => ?_
  have h7 := (flush0_8 t).mp hf
  have hN : t.val < 512 := lt_of_lt_of_eq t.isLt N_0
  have hy : (y 0 : ℕ) < 512 := (y 0).isLt
  blk_simp
  rw [after0_8]
  have h := (inv m c t.val t rfl y ⟨t.val / 8 * 512 + y 0, by omega⟩ rfl).2
  rw [h7] at h
  rw [h]
  have he : ((cfg0.win 8).blk t).view.emb y = ix2 ⟨t.val / 8 * 512 + y 0, by omega⟩ (y 1) := by
    blk_ext [idx t]
  exact (Ffn.sum_share _ _ _ _ _ _).trans ((ref_at m c ⟨t.val / 8 * 512 + y 0, by omega⟩ (y 1)).symm.trans (congrArg _ he.symm))

end Cert.MlpTwoIdeal.Value
-- ==== Proof.HeadNorm.lean ====
/- The mean over the 64 columns of a head, taken from a product with the 0/1 matrix that marks the columns of one head. -/
module

public import Idealize.ShloMosaic.Lib.Pipeline.ValueKit
public import Idealize.ShloMosaic.Lib.Pointwise

@[expose] public section

noncomputable section

open Idealize.ShloMosaic

namespace HeadNorm

/-- Summing against the mark of column `q`'s head sums the 64 columns of that head. -/
theorem gsum (a : Fin 512 → EReal) (q : Fin 512) :
    ∑ k, a k * (if (k : ℕ) / 64 = q / 64 then (1 : EReal) else 0) = ∑ s : Fin 64, a ⟨q / 64 * 64 + s, by omega⟩ := by
  simp only [mul_ite, mul_one, mul_zero]
  rw [← Finset.sum_filter]
  refine Finset.sum_nbij' (fun k => (⟨(k : ℕ) % 64, by omega⟩ : Fin 64)) (fun s => ⟨q / 64 * 64 + s, by omega⟩) ?_ ?_ ?_ ?_ ?_
  · intro k hk; exact Finset.mem_univ _
  · intro s hs; simp only [Finset.mem_filter, Finset.mem_univ, true_and]; omega
  · intro k hk
    simp only [Finset.mem_filter, Finset.mem_univ, true_and] at hk
    exact Fin.ext (by dsimp only; omega)
  · intro s hs; exact Fin.ext (by dsimp only; omega)
  · intro k hk
    simp only [Finset.mem_filter, Finset.mem_univ, true_and] at hk
    exact congrArg a (Fin.ext (by dsimp only; omega))

theorem c64 : Ideal.ofBits FTy.f32 1115684864#32 = ((64 : ℝ) : EReal) := by
  simp [Ideal.ofBits, Ideal.ieee, -EReal.coe_mul]; norm_num
theorem c64i : Ideal.ofBits FTy.f32 1015021568#32 = ((1 / 64 : ℝ) : EReal) := by
  simp [Ideal.ofBits, Ideal.ieee, -EReal.coe_mul]; norm_num

/-- Multiplying by 1/64 divides by 64. -/
theorem mean (x : EReal) : x * Ideal.ofBits FTy.f32 1015021568#32 = Ideal.div x (Ideal.ofBits FTy.f32 1115684864#32) := by
  rw [c64, c64i, Ideal.div_coe (by norm_num)]

end HeadNorm
-- ==== Proof.ProjValue.lean ====
/- The odd layer: the call that normalizes the residual rows, multiplies them by the query, key and value weights and
   normalizes the heads of the queries and keys computes the reference's array. -/
module

public import proofs.«01_k».proof.Proof.Ffn
public import proofs.«01_k».proof.Proof.HeadNorm
public import proofs.«01_k».proof.Proof.Gen.ProjIdeal.Value
public import proofs.«01_k».proof.Proof.Gen.ProjRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The block index of every window at a point. -/
theorem idx : ∀ t : Fin cfg0.N, win0_0.index t = ![t.val / 6, 0] ∧ win0_1.index t = ![0, 0] ∧ win0_2.index t = ![0, t.val % 6]
    ∧ win0_3.index t = ![0, t.val % 6] ∧ win0_4.index t = ![0, t.val % 6] ∧ win0_5.index t = ![0, 0] ∧ win0_6.index t = ![t.val / 6, t.val % 6] :=
  (by decide +kernel : ∀ t : Fin grid0.N, _)

/-! The argument arrays of the kernel, at their printed types. -/

abbrev A0 (c : Dev nD) : FVec Ideal S32768x1024 .f32 := m ((c : Thread nD τ).loc main_arg0)
abbrev A1 (c : Dev nD) : FVec Ideal S1x1024 .f32 := m ((c : Thread nD τ).loc main_arg1)
abbrev A2 (c : Dev nD) : FVec Ideal S1x1024x3072 .f32 := m ((c : Thread nD τ).loc main_arg2)
abbrev A3 (c : Dev nD) : FVec Ideal S1x64 .f32 := m ((c : Thread nD τ).loc main_arg3)
abbrev A4 (c : Dev nD) : FVec Ideal S1x64 .f32 := m ((c : Thread nD τ).loc main_arg4)

/-! What the host prepares before the launch. -/

/-- The floor division by 64 of a word below 512, as the host spells it. -/
def fdiv (w : BitVec 32) : BitVec 32 :=
  Scalar.select
    (IntOp.andi
      (IntOp.cmpi CmpIPredicate.ne (if w = 0 then (0 : BitVec 32) else if w.msb = true then -1 else 1)
        (if 64#32 = 0 then (0 : BitVec 32) else if (64#32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

theorem fdiv_64 : ∀ k : Fin 512, fdiv (BitVec.ofNat 32 k) = BitVec.ofNat 32 (k / 64) := by decide +kernel
theorem same_group : ∀ k q : Fin 512, IntOp.cmpi CmpIPredicate.eq (fdiv (BitVec.ofNat 32 k)) (fdiv (BitVec.ofNat 32 q)) = if (k : ℕ) / 64 = q / 64 then 1#1 else 0#1 := by
  have h : ∀ a b : Fin 8, IntOp.cmpi CmpIPredicate.eq (BitVec.ofNat 32 a) (BitVec.ofNat 32 b) = if (a : ℕ) = b then 1#1 else 0#1 := by decide +kernel
  intro k q
  rw [fdiv_64, fdiv_64]
  exact h ⟨k / 64, by omega⟩ ⟨q / 64, by omega⟩

theorem V27 (c : Dev nD) (x : S1x1024.Idx) : (V m c main_v27 : FVec Ideal S1x1024 .f32) x = A1 m c (ix2 0 (x 1)) := by
  unfold V
  simp only [hostOps0, hostOps0_1, hostOps0_2, List.flatten_cons, List.flatten_nil, List.append_nil, List.cons_append, List.nil_append]
  entry_read
  pointwise
  exact congrArg (A1 m c) (by blk_ext)

theorem V9 (c : Dev nD) (x : S1024x3072.Idx) : (V m c main_v9 : FVec Ideal S1024x3072 .bf16) x = A2 m c (ix3 0 (x 0) (x 1)) := by
  unfold V
  simp only [hostOps0, hostOps0_1, hostOps0_2, List.flatten_cons, List.flatten_nil, List.append_nil, List.cons_append, List.nil_append]
  entry_read
  pointwise
theorem V7 (c : Dev nD) (x : S512x512.Idx) : (V m c main_v7 : FVec Ideal S512x512 .bf16) x = if (x 0 : ℕ) / 64 = (x 1 : ℕ) / 64 then (1 : EReal) else 0 := by
  unfold V
  simp only [hostOps0, hostOps0_1, hostOps0_2, List.flatten_cons, List.flatten_nil, List.append_nil, List.cons_append, List.nil_append]
  entry_read
  simp only [StableHlo.TRef.ofBuf, StableHlo.TRef.toBuf, StableHlo.TRef.of, cast_eq]
  pointwise
  refine (congrArg (FloatOps.uitofp (F := Ideal) FTy.bf16) (same_group (x 0) (x 1))).trans ?_
  split <;> simp [FloatOps.uitofp]

abbrev hostPre : List (HloOp τ sig (Elt Idealize.ShloMosaic.Ideal)) := List.flatten [hostOps0, hostOps0_1, hostOps0_2.take 21]
/-- What the buffers hold before the tiled norm weights are joined. -/
abbrev W (c : Dev nD) := StableHlo.after hostPre (fun b => m (c, b))

theorem V22_eq (c : Dev nD) : (V m c main_v22 : FVec Ideal S1x3072 .f32)
    = shapeCast S1x3072 (concatenate S3072 0 [⟨S1024, (W m c main_v16 : FVec Ideal S1024 .f32)⟩, ⟨S1024, (W m c main_v20 : FVec Ideal S1024 .f32)⟩,
        ⟨S1024, (W m c main_v10 : FVec Ideal S1024 .f32)⟩] concatenates_S1024_S1024_S1024_S3072_d0) shapeCasts_S3072_S1x3072 := by
  have h : V m c main_v22 = StableHlo.after (hostOps0_2.drop 21) (W m c) main_v22 := rfl
  rw [h]
  generalize W m c = U
  simp only [hostOps0_2, List.drop_succ_cons, List.drop_zero]
  after_results
  rfl

theorem V25_eq (c : Dev nD) : (V m c main_v25 : FVec Ideal S1x3072 .f32)
    = shapeCast S1x3072 (concatenate S3072 0 [⟨S1024, (W m c main_v10 : FVec Ideal S1024 .f32)⟩, ⟨S1024, (W m c main_v10 : FVec Ideal S1024 .f32)⟩,
        ⟨S1024, (constant S1024 .f32 0#32 : FVec Ideal S1024 .f32)⟩] concatenates_S1024_S1024_S1024_S3072_d0) shapeCasts_S3072_S1x3072 := by
  have h : V m c main_v25 = StableHlo.after (hostOps0_2.drop 21) (W m c) main_v25 := rfl
  rw [h]
  generalize W m c = U
  simp only [hostOps0_2, List.drop_succ_cons, List.drop_zero]
  after_results
  rfl

theorem W16 (c : Dev nD) (l : Fin 1024) : (W m c main_v16 : FVec Ideal S1024 .f32) (ix1 l) = A3 m c (ix2 0 ⟨l % 64, by omega⟩) * Ideal.ofBits .f32 1040187392#32 := by
  simp only [W, hostPre, hostOps0, hostOps0_1, hostOps0_2, List.take_succ_cons, List.take_zero, List.flatten_cons, List.flatten_nil, List.append_nil, List.cons_append, List.nil_append]
  entry_read
  pointwise
  blk_ext

theorem W20 (c : Dev nD) (l : Fin 1024) : (W m c main_v20 : FVec Ideal S1024 .f32) (ix1 l) = A4 m c (ix2 0 ⟨l % 64, by omega⟩) := by
  simp only [W, hostPre, hostOps0, hostOps0_1, hostOps0_2, List.take_succ_cons, List.take_zero, List.flatten_cons, List.flatten_nil, List.append_nil, List.cons_append, List.nil_append]
  entry_read
  pointwise
  blk_ext

theorem W10 (c : Dev nD) (l : Fin 1024) : (W m c main_v10 : FVec Ideal S1024 .f32) (ix1 l) = (1 : EReal) := by
  simp only [W, hostPre, hostOps0, hostOps0_1, hostOps0_2, List.take_succ_cons, List.take_zero, List.flatten_cons, List.flatten_nil, List.append_nil, List.cons_append, List.nil_append]
  entry_read
  pointwise

theorem V22q (c : Dev nD) (x : S1x3072.Idx) (hx : (x 1 : ℕ) < 1024) : (V m c main_v22 : FVec Ideal S1x3072 .f32) x = A3 m c (ix2 0 ⟨(x 1 : ℕ) % 64, by omega⟩) * Ideal.ofBits .f32 1040187392#32 := by
  rw [V22_eq]
  pointwise
  rw [dif_pos hx, W16]

theorem V22k (c : Dev nD) (x : S1x3072.Idx) (h1 : 1024 ≤ (x 1 : ℕ)) (hx : (x 1 : ℕ) < 2048) : (V m c main_v22 : FVec Ideal S1x3072 .f32) x = A4 m c (ix2 0 ⟨(x 1 : ℕ) % 64, by omega⟩) := by
  rw [V22_eq]
  pointwise
  rw [dif_neg (by omega), dif_pos (by omega), W20]
  exact congrArg (A4 m c) (congrArg (ix2 0) (Fin.ext (by dsimp only; omega)))

theorem V25_at (c : Dev nD) (x : S1x3072.Idx) (hx : (x 1 : ℕ) < 2048) : (V m c main_v25 : FVec Ideal S1x3072 .f32) x = (1 : EReal) := by
  rw [V25_eq]
  pointwise
  by_cases h1 : (x 1 : ℕ) < 1024
  · rw [dif_pos h1, W10]
  · rw [dif_neg h1, dif_pos (by omega), W10]

/-! The blocks of the six operands. -/

theorem blk0 (c : Dev nD) (t : Fin cfg0.N) (y : S1024x1024.Idx) (r : Fin 32768) (hr : (r : ℕ) = t.val / 6 * 1024 + y 0) :
    iblk m c 0 t y = A0 m c (ix2 r (y 1)) := by
  blk_point [iblk, V, idx t]

theorem blk1 (c : Dev nD) (t : Fin cfg0.N) (y : S1x1024.Idx) : iblk m c 1 t y = A1 m c (ix2 0 (y 1)) := by
  blk_simp [iblk, idx t]
  exact (V27 m c _).trans (congrArg (A1 m c) (by blk_ext [idx t]))

theorem blk2 (c : Dev nD) (t : Fin cfg0.N) (y : S1024x512.Idx) (l : Fin 3072) (hl : (l : ℕ) = t.val % 6 * 512 + y 1) :
    iblk m c 2 t y = A2 m c (ix3 0 (y 0) l) := by
  blk_simp [iblk, idx t]
  exact (V9 m c _).trans (congrArg (A2 m c) (by blk_ext [idx t]))

theorem emb3 (t : Fin cfg0.N) (y : S1x512.Idx) : ((win0_3.blk t).view.emb y 1 : ℕ) = t.val % 6 * 512 + y 1 := by
  blk_simp [idx t]
theorem emb4 (t : Fin cfg0.N) (y : S1x512.Idx) : ((win0_4.blk t).view.emb y 1 : ℕ) = t.val % 6 * 512 + y 1 := by
  blk_simp [idx t]
theorem emb5 (t : Fin cfg0.N) (y : S512x512.Idx) : (win0_5.blk t).view.emb y = y := by
  blk_ext [idx t]

theorem blk3q (c : Dev nD) (t : Fin cfg0.N) (y : S1x512.Idx) (h : t.val % 6 ≤ 1) :
    iblk m c 3 t y = A3 m c (ix2 0 ⟨(t.val % 6 * 512 + y 1 : ℕ) % 64, by omega⟩) * Ideal.ofBits .f32 1040187392#32 := by
  have hy : (y 1 : ℕ) < 512 := (y 1).isLt
  have e := emb3 t y
  blk_simp [iblk]
  refine (V22q m c _ (lt_of_eq_of_lt e (by omega))).trans ?_
  exact congrArg (fun k : Fin 64 => A3 m c (ix2 0 k) * Ideal.ofBits .f32 1040187392#32) (Fin.ext (congrArg (· % 64) e))

theorem blk3k (c : Dev nD) (t : Fin cfg0.N) (y : S1x512.Idx) (h1 : 2 ≤ t.val % 6) (h : t.val % 6 ≤ 3) :
    iblk m c 3 t y = A4 m c (ix2 0 ⟨(t.val % 6 * 512 + y 1 : ℕ) % 64, by omega⟩) := by
  have hy : (y 1 : ℕ) < 512 := (y 1).isLt
  have e := emb3 t y
  blk_simp [iblk]
  refine (V22k m c _ (le_of_le_of_eq (by omega) e.symm) (lt_of_eq_of_lt e (by omega))).trans ?_
  exact congrArg (fun k : Fin 64 => A4 m c (ix2 0 k)) (Fin.ext (congrArg (· % 64) e))

theorem blk4 (c : Dev nD) (t : Fin cfg0.N) (y : S1x512.Idx) (h : t.val % 6 ≤ 3) : iblk m c 4 t y = (1 : EReal) := by
  have hy : (y 1 : ℕ) < 512 := (y 1).isLt
  have e := emb4 t y
  blk_simp [iblk]
  exact V25_at m c _ (lt_of_eq_of_lt e (by omega))

theorem blk5 (c : Dev nD) (t : Fin cfg0.N) (y : S512x512.Idx) :
    iblk m c 5 t y = if (y 0 : ℕ) / 64 = (y 1 : ℕ) / 64 then (1 : EReal) else 0 := by
  blk_simp [iblk]
  refine (V7 m c _).trans ?_
  rw [emb5 t y]

/-! The normalized rows, their product with the weights, and the product's heads. -/

/-- The normalized rows. -/
def HN (c : Dev nD) (r : Fin 32768) (d : Fin 1024) : EReal := Ffn.rms (fun q => A0 m c (ix2 r q)) (fun q => A1 m c (ix2 0 q)) d
/-- Their product with the weights. -/
def P (c : Dev nD) (r : Fin 32768) (l : Fin 3072) : EReal := ∑ d, HN m c r d * A2 m c (ix3 0 d l)

theorem pay1_at (c : Dev nD) (t : Fin cfg0.N) (y : S1024x1024.Idx) (r : Fin 32768) (hr : (r : ℕ) = t.val / 6 * 1024 + y 0) :
    k0_pay1 (F := Ideal) (iblk m c 0 t) (iblk m c 1 t) y = HN m c r (y 1) := by
  pointwise [k0_pay1, blk1]
  have h : ∀ q : Fin 1024, iblk m c 0 t (ix2 (y 0) q) = A0 m c (ix2 r q) := fun q => blk0 m c t (ix2 (y 0) q) r hr
  simp only [h]
  rw [blk0 m c t y r hr]
  rfl

theorem dot_at (c : Dev nD) (t : Fin cfg0.N) (h : FVec Ideal S1024x1024 .bf16) (y : S1024x512.Idx) (r : Fin 32768) (l : Fin 3072)
    (hh : ∀ d, h (ix2 (y 0) d) = HN m c r d) (hl : (l : ℕ) = t.val % 6 * 512 + y 1) :
    k0_pay4 (F := Ideal) h (iblk m c 2 t) y = P m c r l := by
  have hb : ∀ d : Fin 1024, iblk m c 2 t (ix2 d (y 1)) = A2 m c (ix3 0 d l) := fun d => blk2 m c t (ix2 d (y 1)) l hl
  pointwise [k0_pay4, k0_pay2]
  simp only [hh, hb]
  rfl

theorem pay3_at (c : Dev nD) (t : Fin cfg0.N) (h : FVec Ideal S1024x1024 .bf16) (y : S1024x512.Idx) (r : Fin 32768) (l : Fin 3072)
    (hh : ∀ d, h (ix2 (y 0) d) = HN m c r d) (hl : (l : ℕ) = t.val % 6 * 512 + y 1) (h3 : t.val % 6 ≤ 3) :
    k0_pay3 (F := Ideal) h (iblk m c 2 t) (iblk m c 5 t) (iblk m c 4 t) (iblk m c 3 t) y
      = P m c r l * (Ideal.rsqrt (Ideal.div (∑ s : Fin 64, P m c r ⟨l / 64 * 64 + s, by omega⟩ * P m c r ⟨l / 64 * 64 + s, by omega⟩) (Ideal.ofBits .f32 1115684864#32)
          + Ideal.ofBits .f32 897988541#32) * iblk m c 3 t (ix2 0 (y 1))) := by
  have hb : ∀ d : Fin 1024, iblk m c 2 t (ix2 d (y 1)) = A2 m c (ix3 0 d l) := fun d => blk2 m c t (ix2 d (y 1)) l hl
  have hp : ∀ d : Fin 512, (∑ k : Fin 1024, h (ix2 (y 0) k) * iblk m c 2 t (ix2 k d)) = P m c r ⟨t.val % 6 * 512 + d, by omega⟩ := fun d =>
    Finset.sum_congr rfl fun k _ => congrArg₂ (· * ·) (hh k) (blk2 m c t (ix2 k d) _ rfl)
  have hy : (y 1 : ℕ) < 512 := (y 1).isLt
  have hl' : (⟨t.val % 6 * 512 + (y 1 : ℕ), by omega⟩ : Fin 3072) = l := Fin.ext hl.symm
  pointwise [k0_pay3, k0_pay2, blk5]
  rw [blk4 m c t _ h3, if_pos one_pos]
  simp only [hp]
  have hs : ∀ s : Fin 64, (⟨t.val % 6 * 512 + ((y 1 : ℕ) / 64 * 64 + s), by omega⟩ : Fin 3072) = ⟨l / 64 * 64 + s, by omega⟩ := fun s => Fin.ext (by dsimp only; omega)
  have hg : (∑ x : Fin 512, P m c r ⟨t.val % 6 * 512 + x, by omega⟩ * P m c r ⟨t.val % 6 * 512 + x, by omega⟩ * (if (x : ℕ) / 64 = (y 1 : ℕ) / 64 then (1 : EReal) else 0))
      = ∑ s : Fin 64, P m c r ⟨l / 64 * 64 + s, by omega⟩ * P m c r ⟨l / 64 * 64 + s, by omega⟩ :=
    (HeadNorm.gsum (fun x => P m c r ⟨t.val % 6 * 512 + x, by omega⟩ * P m c r ⟨t.val % 6 * 512 + x, by omega⟩) (y 1)).trans
      (Finset.sum_congr rfl fun s _ => congrArg₂ (fun i j => P m c r i * P m c r j) (hs s) (hs s))
  exact congrArg₂ (· * ·) ((hp (y 1)).trans (congrArg (P m c r) hl'))
    (congrArg (· * _) (congrArg Ideal.rsqrt (congrArg (· + _) ((congrArg (· * _) hg).trans (HeadNorm.mean _)))))

/-- A column of the product divided by its head's root mean square. -/
def N (c : Dev nD) (r : Fin 32768) (l : Fin 3072) : EReal :=
  P m c r l * Ideal.rsqrt (Ideal.div (∑ s : Fin 64, P m c r ⟨l / 64 * 64 + s, by omega⟩ * P m c r ⟨l / 64 * 64 + s, by omega⟩) (Ideal.ofBits .f32 1115684864#32)
          + Ideal.ofBits .f32 897988541#32)

/-! The reference's three column groups. -/

theorem ref13 (c : Dev nD) (r : Fin 32768) (d : Fin 1024) : Cert.ProjRefIdeal.Read.val_main_v13 (F := Ideal) (A0 m c) (A1 m c) (ix2 r d) = HN m c r d := by
  pointwise [Cert.ProjRefIdeal.Read.val_main_v13, Cert.ProjRefIdeal.Read.val_main_v12, Cert.ProjRefIdeal.Read.val_main_v11, Cert.ProjRefIdeal.Read.val_main_v10, Cert.ProjRefIdeal.Read.val_main_v9, Cert.ProjRefIdeal.Read.val_main_v8, Cert.ProjRefIdeal.Read.val_main_v7, Cert.ProjRefIdeal.Read.val_main_v6, Cert.ProjRefIdeal.Read.val_main_v5, Cert.ProjRefIdeal.Read.val_main_v4, Cert.ProjRefIdeal.Read.val_main_v3, Cert.ProjRefIdeal.Read.val_main_v2, Cert.ProjRefIdeal.Read.val_main_v1, Cert.ProjRefIdeal.Read.val_main_v0, Cert.ProjRefIdeal.Read.val_main_cst, Cert.ProjRefIdeal.Read.val_main_cst_0, Cert.ProjRefIdeal.Read.val_main_cst_1]
  rfl

theorem ref15 (c : Dev nD) (r : Fin 32768) (l : Fin 3072) : Cert.ProjRefIdeal.Read.val_main_v15 (F := Ideal) (A0 m c) (A1 m c) (A2 m c) (ix2 r l) = P m c r l := by
  pointwise [Cert.ProjRefIdeal.Read.val_main_v15, Cert.ProjRefIdeal.Read.val_main_v14]
  simp only [ref13]
  rfl

theorem ref_q (c : Dev nD) (r : Fin 32768) (l : Fin 1024) : Cert.ProjRefIdeal.Read.val_main_v51 (F := Ideal) (A0 m c) (A1 m c) (A2 m c) (A3 m c) (ix2 r l)
    = N m c r ⟨l, by omega⟩ * A3 m c (ix2 0 ⟨l % 64, by omega⟩) * Ideal.ofBits .f32 1040187392#32 := by
  pointwise [Cert.ProjRefIdeal.Read.val_main_v51, Cert.ProjRefIdeal.Read.val_main_v35, Cert.ProjRefIdeal.Read.val_main_v34, Cert.ProjRefIdeal.Read.val_main_v33, Cert.ProjRefIdeal.Read.val_main_v32, Cert.ProjRefIdeal.Read.val_main_v31, Cert.ProjRefIdeal.Read.val_main_v30, Cert.ProjRefIdeal.Read.val_main_v29, Cert.ProjRefIdeal.Read.val_main_v28, Cert.ProjRefIdeal.Read.val_main_v27, Cert.ProjRefIdeal.Read.val_main_v26, Cert.ProjRefIdeal.Read.val_main_v25, Cert.ProjRefIdeal.Read.val_main_v24, Cert.ProjRefIdeal.Read.val_main_v23, Cert.ProjRefIdeal.Read.val_main_v22, Cert.ProjRefIdeal.Read.val_main_v21, Cert.ProjRefIdeal.Read.val_main_v20, Cert.ProjRefIdeal.Read.val_main_v19, Cert.ProjRefIdeal.Read.val_main_v16, Cert.ProjRefIdeal.Read.val_main_cst_2, Cert.ProjRefIdeal.Read.val_main_cst_3, Cert.ProjRefIdeal.Read.val_main_cst_4, Cert.ProjRefIdeal.Read.val_main_cst_5]
  simp only [ref15]
  rfl

theorem ref_k (c : Dev nD) (r : Fin 32768) (l : Fin 1024) : Cert.ProjRefIdeal.Read.val_main_v52 (F := Ideal) (A0 m c) (A1 m c) (A2 m c) (A4 m c) (ix2 r l)
    = N m c r ⟨1024 + l, by omega⟩ * A4 m c (ix2 0 ⟨l % 64, by omega⟩) := by
  have hs : ∀ s : Fin 64, (⟨1024 + ((l : ℕ) / 64 * 64 + s), by omega⟩ : Fin 3072) = ⟨(1024 + l : ℕ) / 64 * 64 + s, by omega⟩ := fun s => Fin.ext (by dsimp only; omega)
  pointwise [Cert.ProjRefIdeal.Read.val_main_v52, Cert.ProjRefIdeal.Read.val_main_v50, Cert.ProjRefIdeal.Read.val_main_v49, Cert.ProjRefIdeal.Read.val_main_v48, Cert.ProjRefIdeal.Read.val_main_v47, Cert.ProjRefIdeal.Read.val_main_v46, Cert.ProjRefIdeal.Read.val_main_v45, Cert.ProjRefIdeal.Read.val_main_v44, Cert.ProjRefIdeal.Read.val_main_v43, Cert.ProjRefIdeal.Read.val_main_v42, Cert.ProjRefIdeal.Read.val_main_v41, Cert.ProjRefIdeal.Read.val_main_v40, Cert.ProjRefIdeal.Read.val_main_v39, Cert.ProjRefIdeal.Read.val_main_v38, Cert.ProjRefIdeal.Read.val_main_v37, Cert.ProjRefIdeal.Read.val_main_v36, Cert.ProjRefIdeal.Read.val_main_v17, Cert.ProjRefIdeal.Read.val_main_cst_6, Cert.ProjRefIdeal.Read.val_main_cst_7, Cert.ProjRefIdeal.Read.val_main_cst_8]
  simp only [ref15, hs]
  rfl

theorem ref_at (c : Dev nD) (r : Fin 32768) (l : Fin 3072) :
    Cert.ProjRefIdeal.Read.val_main_v54 (F := Ideal) (A0 m c) (A1 m c) (A2 m c) (A3 m c) (A4 m c) (ix2 r l)
      = if h : (l : ℕ) < 1024 then N m c r l * A3 m c (ix2 0 ⟨l % 64, by omega⟩) * Ideal.ofBits .f32 1040187392#32
        else if h : (l : ℕ) < 2048 then N m c r l * A4 m c (ix2 0 ⟨l % 64, by omega⟩) else P m c r l := by
  pointwise [Cert.ProjRefIdeal.Read.val_main_v54, Cert.ProjRefIdeal.Read.val_main_v53, Cert.ProjRefIdeal.Read.val_main_v18]
  simp only [ref15, ref_q, ref_k]
  by_cases h1 : (l : ℕ) < 1024
  · rw [dif_pos h1, dif_pos h1]
  · rw [dif_neg h1, dif_neg h1]
    by_cases h2 : (l : ℕ) < 2048
    · have e : (⟨1024 + ((l : ℕ) - 1024), by omega⟩ : Fin 3072) = l := Fin.ext (by dsimp only; omega)
      have e' : (⟨((l : ℕ) - 1024) % 64, by omega⟩ : Fin 64) = ⟨l % 64, by omega⟩ := Fin.ext (by dsimp only; omega)
      rw [dif_pos h2, dif_pos (by omega), e, e']
    · have e : (⟨2048 + ((l : ℕ) - 1024 - 1024), by omega⟩ : Fin 3072) = l := Fin.ext (by dsimp only; omega)
      rw [dif_neg h2, dif_neg (by omega), e]

/-! What the points leave behind. -/

/-- The scratch holds the normalized rows of the point's block, and the output is computed from it. -/
def Inv (c : Dev nD) (t : Fin cfg0.N) : Prop :=
  ∃ S : FVec Ideal S1024x1024 .bf16, (∀ (y : S1024x1024.Idx) (r : Fin 32768), (r : ℕ) = t.val / 6 * 1024 + y 0 → S y = HN m c r (y 1))
    ∧ (t.val % 6 ≤ 3 → (outsAt0 m c t.val t.isLt).1 = k0_pay3 (F := Ideal) S (iblk m c 2 t) (iblk m c 5 t) (iblk m c 4 t) (iblk m c 3 t))
    ∧ (4 ≤ t.val % 6 → (outsAt0 m c t.val t.isLt).1 = k0_pay4 (F := Ideal) S (iblk m c 2 t))
    ∧ (outsAt0 m c t.val t.isLt).2 = S

theorem inv_A (c : Dev nD) (t : Fin cfg0.N) (h0 : t.val % 6 = 0) : Inv m c t := by
  refine ⟨k0_pay1 (F := Ideal) (iblk m c 0 t) (iblk m c 1 t), pay1_at m c t, fun _ => ?_, fun h => absurd h (by omega), ?_⟩
  · rw [outsAt0_A m c t h0 (by omega) (by omega)]; frame_out
  · rw [outsAt0_A m c t h0 (by omega) (by omega)]; frame_out

theorem inv (c : Dev nD) : ∀ (n : ℕ) (t : Fin cfg0.N), t.val = n → Inv m c t
  | 0, t, hn => inv_A m c t (by omega)
  | n + 1, t, hn => by
    by_cases h0 : t.val % 6 = 0
    · exact inv_A m c t h0
    · obtain ⟨S, hS, -, -, h2⟩ := inv c n ⟨t.val - 1, Nat.lt_of_le_of_lt (Nat.sub_le _ _) t.isLt⟩ (by simp [hn])
      refine ⟨S, fun y r hr => hS y r (by dsimp only; omega), fun h => ?_, fun h => ?_, ?_⟩
      · rw [← h2, outsAt0_B m c t h0 h (by omega)]; frame_out; rw [read_unread_whole]
      · rw [← h2, outsAt0_C m c t h0 (by omega) h]; frame_out; rw [read_unread_whole]
      · by_cases h : t.val % 6 ≤ 3
        · rw [← h2, outsAt0_B m c t h0 h (by omega)]; rfl
        · rw [← h2, outsAt0_C m c t h0 h (by omega)]; rfl

/-- The output block of a point is the reference's. -/
theorem out_at (c : Dev nD) (t : Fin cfg0.N) (y : S1024x512.Idx) (r : Fin 32768) (l : Fin 3072) (hr : (r : ℕ) = t.val / 6 * 1024 + y 0)
    (hl : (l : ℕ) = t.val % 6 * 512 + y 1) : (outsAt0 m c t.val t.isLt).1 y
      = Cert.ProjRefIdeal.Read.val_main_v54 (F := Ideal) (A0 m c) (A1 m c) (A2 m c) (A3 m c) (A4 m c) (ix2 r l) := by
  have hy : (y 1 : ℕ) < 512 := (y 1).isLt
  obtain ⟨S, hS, hA, hC, -⟩ := inv m c t.val t rfl
  have hh : ∀ d, S (ix2 (y 0) d) = HN m c r d := fun d => hS (ix2 (y 0) d) r hr
  rw [ref_at]
  by_cases h3 : t.val % 6 ≤ 3
  · rw [hA h3, pay3_at m c t S y r l hh hl h3, ← mul_assoc]
    by_cases h1 : t.val % 6 ≤ 1
    · rw [dif_pos (by omega), blk3q m c t _ h1, ← mul_assoc]
      have e : (⟨(t.val % 6 * 512 + y 1 : ℕ) % 64, by omega⟩ : Fin 64) = ⟨l % 64, by omega⟩ := Fin.ext (by dsimp only; omega)
      exact congrArg (fun k => N m c r l * A3 m c (ix2 0 k) * Ideal.ofBits .f32 1040187392#32) e
    · rw [dif_neg (by omega), dif_pos (by omega), blk3k m c t _ (by omega) h3]
      have e : (⟨(t.val % 6 * 512 + y 1 : ℕ) % 64, by omega⟩ : Fin 64) = ⟨l % 64, by omega⟩ := Fin.ext (by dsimp only; omega)
      exact congrArg (fun k => N m c r l * A4 m c (ix2 0 k)) e
  · rw [hC (by omega), dot_at m c t S y r l hh hl, dif_neg (by omega), dif_neg (by omega)]

/-- The kernel's result array is the reference's. -/
theorem final (c : Dev nD) : (dats m 0 c).arrAt 6 cfg0.N
    = Cert.ProjRefIdeal.Read.val_main_v54 (F := Ideal) (A0 m c) (A1 m c) (A2 m c) (A3 m c) (A4 m c) := by
  refine (dats m 0 c).arrAt_eq_of_covers 6 _ (by decide +kernel) fun t hf y => ?_
  have hN : t.val < 192 := lt_of_lt_of_eq t.isLt N_0
  have hy0 : (y 0 : ℕ) < 1024 := (y 0).isLt
  have hy1 : (y 1 : ℕ) < 512 := (y 1).isLt
  blk_simp
  rw [after0_6]
  have he : ((cfg0.win 6).blk t).view.emb y = ix2 ⟨t.val / 6 * 1024 + y 0, by omega⟩ ⟨t.val % 6 * 512 + y 1, by omega⟩ := by
    blk_ext [idx t]
  exact (out_at m c t y _ _ rfl rfl).trans (congrArg _ he.symm)

end Cert.ProjIdeal.Value
-- ==== Proof.ProjDtIdealRun.lean ====
/- The body of the even layer's projection call, run in each of its three cases, on any whole buffers: what it
   stores, as functions of what it loads. -/
module

public import proofs.«01_k».proof.Proof.Gen.ProjDtIdeal.Frame
public import proofs.«01_k».proof.Proof.Gen.ProjDtIdeal.Skeleton
public import proofs.«01_k».proof.Proof.Gen.ProjDtIdeal.Points
public import Idealize.ShloMosaic.Lib.Pipeline.FrameBody
public import Idealize.ShloMosaic.Lib.Pipeline.TableIdle
public import Idealize.ShloMosaic.Lib.Ring
public import Idealize.ShloMosaic.Lib.VecWindow
public import Idealize.ShloMosaic.Lib.Tactic

@[expose] public section

set_option maxRecDepth 16384

noncomputable section

namespace Cert.ProjDtIdeal.Body

open Cert.ProjDtIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole buffer holding `x` reads `x`. -/
theorem load_whole {s : Shape} {e : EltTy} {m : Memref sig .tc .vmem s e} (h : m.IsWhole) (x : Vec F s e) {off : Fin s.rank → ℕ}
    (inb : ∀ a, off a + s.size a ≤ s.size a) :
    m.view.readAt (Elt F) (Rect.unit off s.size inb).toLoadRect (h.unread x) = x := by
  rw [View.readAt_full, h.read_unread]

set_option maxHeartbeats 1000000 in
/-- The first column block of a row of blocks: the normalized rows go to the scratch, their product with the time-step weights to the second result, their product with the column block to the first. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x1024 .f32) (harg10 : arg10.IsWhole) (arg11 : Memref sig .tc .vmem S1024x1024 .bf16) (harg11 : arg11.IsWhole)
    (h1 : k0_cond1 i = 1#1) (h2 : ¬k0_cond2 i = 1#1) (h3 : k0_cond3 i = 1#1)
    (x0 : Vec F S1024x1024 .f32) (x1 : Vec F S1x1024 .f32) (x2 : Vec F S1024x512 .bf16) (x3 : Vec F S1x512 .f32) (x4 : Vec F S1x512 .f32) (x5 : Vec F S512x512 .bf16) (x6 : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (k0_pay5 (k0_pay1 x0 x1) x2) ∗ owns (c : Thread nD τ) arg10 fullShare (k0_pay2 (k0_pay1 x0 x1) x6) ∗ owns (c : Thread nD τ) arg11 fullShare (k0_pay1 x0 x1)) -∗ K ⟨⟩))
      ⊢ wp frame (wpE (defs₀ (F := F)) Variants.none c none) E (cc0_rms_proj_dt i arg2 harg2 arg3 harg3 arg4 harg4 arg5 harg5 arg6 harg6 arg7 harg7 arg8 harg8 arg9 harg9 arg10 harg10 arg11 harg11) K := by
  simp only [cc0_rms_proj_dt_eq_skeleton]; unfold cc0_rms_proj_dt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro; (try unfold run_first.sl.v36); unfold run_first.sl.H11_1; rw [View.read_writes_full]; (try rw [View.readCov_full]); repeat rw [load_whole]
  isplitl [H10]
  · iexists _; isplitr
    swap; · iexact H10
    ipureintro; (try unfold run_first.sl.v36); unfold run_first.sl.H11_1; rw [View.read_writes_full]; (try rw [View.readCov_full]); repeat rw [load_whole]
  iexists _; isplitr
  swap; · iexact H11
  ipureintro; (try unfold run_first.sl.v36); unfold run_first.sl.H11_1; rw [View.read_writes_full]; (try rw [View.readCov_full]); repeat rw [load_whole]

set_option maxHeartbeats 1000000 in
/-- A later column block without a normalization: the product of the scratch with the column block goes to the first result; the second result and the scratch stay. -/
theorem run_plain (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x1024 .f32) (harg10 : arg10.IsWhole) (arg11 : Memref sig .tc .vmem S1024x1024 .bf16) (harg11 : arg11.IsWhole)
    (h1 : ¬k0_cond1 i = 1#1) (h2 : ¬k0_cond2 i = 1#1) (h3 : k0_cond3 i = 1#1)
    (x0 : Vec F S1024x1024 .f32) (x1 : Vec F S1x1024 .f32) (x2 : Vec F S1024x512 .bf16) (x3 : Vec F S1x512 .f32) (x4 : Vec F S1x512 .f32) (x5 : Vec F S512x512 .bf16) (x6 : Vec F S1024x1024 .bf16) (x8 : Vec F S1024x1024 .f32) (xs : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare x8 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (k0_pay5 xs x2) ∗ owns (c : Thread nD τ) arg10 fullShare x8 ∗ owns (c : Thread nD τ) arg11 fullShare xs) -∗ K ⟨⟩))
      ⊢ wp frame (wpE (defs₀ (F := F)) Variants.none c none) E (cc0_rms_proj_dt i arg2 harg2 arg3 harg3 arg4 harg4 arg5 harg5 arg6 harg6 arg7 harg7 arg8 harg8 arg9 harg9 arg10 harg10 arg11 harg11) K := by
  simp only [cc0_rms_proj_dt_eq_skeleton]; unfold cc0_rms_proj_dt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf10; obtain rfl := harg11.eq_unread hf11
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro; rw [View.read_writes_full]; repeat rw [load_whole]
  isplitl [H10]
  · iexists _; isplitr
    swap; · iexact H10
    ipureintro; exact harg10.read_unread _
  iexists _; isplitr
  swap; · iexact H11
  ipureintro; exact harg11.read_unread _

set_option maxHeartbeats 1000000 in
/-- A later column block with a normalization: the product, normalized over its heads, goes to the first result; the second result and the scratch stay. -/
theorem run_normed (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1024x1024 .bf16) (harg8 : arg8.IsWhole) (arg9 : Memref sig .tc .vmem S1024x512 .bf16) (harg9 : arg9.IsWhole) (arg10 : Memref sig .tc .vmem S1024x1024 .f32) (harg10 : arg10.IsWhole) (arg11 : Memref sig .tc .vmem S1024x1024 .bf16) (harg11 : arg11.IsWhole)
    (h1 : ¬k0_cond1 i = 1#1) (h2 : k0_cond2 i = 1#1) (h3 : ¬k0_cond3 i = 1#1)
    (x0 : Vec F S1024x1024 .f32) (x1 : Vec F S1x1024 .f32) (x2 : Vec F S1024x512 .bf16) (x3 : Vec F S1x512 .f32) (x4 : Vec F S1x512 .f32) (x5 : Vec F S512x512 .bf16) (x6 : Vec F S1024x1024 .bf16) (x8 : Vec F S1024x1024 .f32) (xs : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare x8 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (k0_pay4 xs x2 x5 x4 x3) ∗ owns (c : Thread nD τ) arg10 fullShare x8 ∗ owns (c : Thread nD τ) arg11 fullShare xs) -∗ K ⟨⟩))
      ⊢ wp frame (wpE (defs₀ (F := F)) Variants.none c none) E (cc0_rms_proj_dt i arg2 harg2 arg3 harg3 arg4 harg4 arg5 harg5 arg6 harg6 arg7 harg7 arg8 harg8 arg9 harg9 arg10 harg10 arg11 harg11) K := by
  simp only [cc0_rms_proj_dt_eq_skeleton]; unfold cc0_rms_proj_dt_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf10; obtain rfl := harg11.eq_unread hf11
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H9]
  · iexists _; isplitr
    swap; · iexact H9
    ipureintro; rw [View.read_writes_full]; repeat rw [load_whole]
  isplitl [H10]
  · iexists _; isplitr
    swap; · iexact H10
    ipureintro; exact harg10.read_unread _
  iexists _; isplitr
  swap; · iexact H11
  ipureintro; exact harg11.read_unread _

end Cert.ProjDtIdeal.Body

end
-- ==== Proof.ProjDtIdealFrame.lean ====
/- The frame of the even layer's projection call: what each buffer holds after each point, the obligation of the
   body, the run of the program and the claim that the arguments end unchanged. The second result's block is stored
   at the first column block of a row and written back at the last, so its buffer is carried in between. -/
module

public import proofs.«01_k».proof.Proof.ProjDtIdealRun
public import Idealize.ShloMosaic.Lib.Claim

@[expose] public section

set_option maxRecDepth 16384

noncomputable section

namespace Cert.ProjDtIdeal.Body

open Cert.ProjDtIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The cases, over the points -/

/-- The first case is the first column block of a row. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The column blocks that carry a normalization. -/
def Normed (t : Fin cfg0.N) : Prop := 4 ≤ t.val % 8 ∧ t.val % 8 ≠ 6

instance (t : Fin cfg0.N) : Decidable (Normed t) := inferInstanceAs (Decidable (_ ∧ _))

theorem normed_iff : ∀ t : Fin cfg0.N, k0_cond2 (grid0.coords t) = 1#1 ↔ Normed t :=
  (by decide +kernel : ∀ t : Fin grid0.N, k0_cond2 (grid0.coords t) = 1#1 ↔ (4 ≤ t.val % 8 ∧ t.val % 8 ≠ 6))

theorem plain_iff : ∀ t : Fin cfg0.N, k0_cond3 (grid0.coords t) = 1#1 ↔ ¬Normed t :=
  (by decide +kernel : ∀ t : Fin grid0.N, k0_cond3 (grid0.coords t) = 1#1 ↔ ¬(4 ≤ t.val % 8 ∧ t.val % 8 ≠ 6))

/-- Every point stores the first result. -/
theorem live7 : ∀ t : Fin cfg0.N, cfg0.idle 7 (grid0.coords t) = false :=
  (by decide +kernel : ∀ t : Fin grid0.N, cfg0.idle 7 (grid0.coords t) = false)

/-- Only the first point of a row stores the second result. -/
theorem idle8 : ∀ t : Fin cfg0.N, cfg0.idle 8 (grid0.coords t) = decide (t.val % 8 ≠ 0) :=
  (by decide +kernel : ∀ t : Fin grid0.N, cfg0.idle 8 (grid0.coords t) = decide (t.val % 8 ≠ 0))

/-- The second result's block is written back at the last point of a row. -/
theorem flush8 (t : Fin cfg0.N) : (cfg0.win 8).flush t = decide (t.val % 8 = 7) :=
  Bool.eq_iff_iff.mpr ((flush0_8 t).trans decide_eq_true_iff.symm)

/-- Its buffer holds nothing stored exactly at the first point of a row. -/
theorem fresh8 (t : Fin cfg0.N) : cfg0.fresh 8 t.val = decide (t.val % 8 = 0) := by
  refine cfg0.fresh_tab 8 (fun n => decide (n % 8 = 0)) rfl (fun t => ?_) t.val t.isLt.le
  rw [flush8]
  have hi : cfg0.idle 8 (cfg0.grid.coords t) = decide (t.val % 8 ≠ 0) := idle8 t
  rw [hi]
  by_cases h : t.val % 8 = 0 <;> by_cases h' : t.val % 8 = 7 <;> simp [h] <;> omega

/-! ## What the buffers hold -/

abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x512 .bf16 := win0_2.stage (cfg0.slots t 2)
abbrev ms3 (t : Fin cfg0.N) : Memref sig .tc .vmem S1x512 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S512x512 .bf16 := win0_5.stage (cfg0.slots t 5)
abbrev ms6 (t : Fin cfg0.N) : Memref sig .tc .vmem S1024x1024 .bf16 := win0_6.stage (cfg0.slots t 6)
abbrev ms7 (t : Fin cfg0.N) : Memref sig .tc .vmem S1024x512 .bf16 := win0_7.stage (cfg0.slots t 7)
abbrev ms8 (t : Fin cfg0.N) : Memref sig .tc .vmem S1024x1024 .f32 := win0_8.stage (cfg0.slots t 8)
/-- The scratch the rows are kept in. -/
abbrev scr : Memref sig .tc .vmem S1024x1024 .bf16 := Memref.whole cc0_scratch0

theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

variable (m : (ℓ : Loc nD τ sig) → Buf (Elt F) ℓ) (ρ : Dev nD → PrngReg)

/-- The first point of the row of blocks `t` lies in. -/
def start (t : Fin cfg0.N) : Fin cfg0.N := ⟨t.val / 8 * 8, Nat.lt_of_le_of_lt (Nat.div_mul_le_self _ _) t.isLt⟩

/-- The normalized rows of the row of blocks. -/
def rowsAt (c : Dev nD) (t : Fin cfg0.N) : Vec F S1024x1024 .bf16 := k0_pay1 (iblk m c 0 (start t)) (iblk m c 1 (start t))

/-- The second result's block. -/
def dtAt (c : Dev nD) (t : Fin cfg0.N) : Vec F S1024x1024 .f32 := k0_pay2 (rowsAt m c t) (iblk m c 6 (start t))

/-- The first result's block. -/
def outAt (c : Dev nD) (t : Fin cfg0.N) : Vec F S1024x512 .bf16 :=
  if Normed t then k0_pay4 (rowsAt m c t) (iblk m c 2 t) (iblk m c 5 t) (iblk m c 4 t) (iblk m c 3 t)
  else k0_pay5 (rowsAt m c t) (iblk m c 2 t)

theorem start_first (t : Fin cfg0.N) (h : t.val % 8 = 0) : start t = t := Fin.ext (by show t.val / 8 * 8 = t.val; omega)

theorem start_later (t t' : Fin cfg0.N) (h : t.val % 8 ≠ 0) (h' : t'.val = t.val - 1) : start t = start t' :=
  Fin.ext (by show t.val / 8 * 8 = t'.val / 8 * 8; omega)

theorem rowsAt_later (c : Dev nD) (t t' : Fin cfg0.N) (h : t.val % 8 ≠ 0) (h' : t'.val = t.val - 1) : rowsAt m c t = rowsAt m c t' := by
  unfold rowsAt; rw [start_later t t' h h']

theorem dtAt_later (c : Dev nD) (t t' : Fin cfg0.N) (h : t.val % 8 ≠ 0) (h' : t'.val = t.val - 1) : dtAt m c t = dtAt m c t' := by
  unfold dtAt; rw [rowsAt_later m c t t' h h', start_later t t' h h']

/-- The invariant before position `n`: the scratch holds the last point's rows. -/
def inv (c : Dev nD) : (n : ℕ) → n ≤ cfg0.N → sProp 𝕄
  | 0, _ => Pipeline.ΦA spec0 c
  | n + 1, hn => iprop(iprop(owns (c : Thread nD τ) scr fullShare (rowsAt m c ⟨n, hn⟩)) ∗ (∃ r, prngReg c r))

theorem inv_pos (c : Dev nD) (n : ℕ) (h : n ≤ cfg0.N) (hz : n ≠ 0) :
    inv m c n h = iprop(iprop(owns (c : Thread nD τ) scr fullShare (rowsAt m c ⟨n - 1, by omega⟩)) ∗ (∃ r, prngReg c r)) := by
  cases n with
  | zero => exact absurd rfl hz
  | succ n => rfl

/-- The invariant gives the scratch at some contents. -/
theorem inv_any (c : Dev nD) (n : ℕ) (h : n ≤ cfg0.N) : inv m c n h ⊢ Pipeline.ΦA spec0 c := by
  cases n with
  | zero => exact Idealize.SL.BI.Entails.refl _
  | succ n =>
    rw [PhiA_eq]
    show iprop(iprop(owns (c : Thread nD τ) scr fullShare (rowsAt m c ⟨n, h⟩)) ∗ (∃ r, prngReg c r)) ⊢ _
    iintro ⟨HS, Hg⟩
    isplitl [HS]
    · iexists _; iexact HS
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => dtAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t := by dsimp only [dats]
theorem after8 (c : Dev nD) (t : Fin cfg0.N) : (dats m 0 c).after 8 t = dtAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- At a later point of a row the second result's buffer holds the row's block. -/
theorem before8 (c : Dev nD) (t : Fin cfg0.N) (h : t.val % 8 ≠ 0) (d) : (dats m 0 c).before 8 t d = dtAt m c t := by
  rw [(dats m 0 c).before_out_traj 8 rfl (fun _ _ => rfl) (fun t ht hi _ => ?_) t.val t rfl d,
    fresh8, decide_eq_false h, if_neg Bool.false_ne_true, after8]
  · exact (dtAt_later m c t _ h rfl).symm
  · rw [after8, after8]
    exact dtAt_later m c t _ (of_decide_eq_true ((idle8 t).symm.trans hi)) rfl

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (ms7 t) fullShare (outAt m c t) := by
  unfold Dat.leavesExact; rw [show cfg0.idle 7 (cfg0.grid.coords t) = false from live7 t, after7]

/-- The second result's buffer at the row's block is what every point leaves. -/
theorem leaves8 (c : Dev nD) (t : Fin cfg0.N) :
    (owns (c : Thread nD τ) (ms8 t) fullShare (dtAt m c t) : sProp 𝕄) ⊢ (dats m 0 c).leavesExact 8 t := by
  by_cases h : t.val % 8 = 0
  · unfold Dat.leavesExact
    rw [show cfg0.idle 8 (cfg0.grid.coords t) = false from (idle8 t).trans (decide_eq_false (not_not.mpr h)), after8]
  · by_cases h7 : t.val % 8 = 7
    · unfold Dat.leavesExact
      rw [show cfg0.idle 8 (cfg0.grid.coords t) = true from (idle8 t).trans (decide_eq_true h), flush8, decide_eq_true h7, after8]
    · rw [(dats m 0 c).leavesExact_idle 8 t ((idle8 t).trans (decide_eq_true h)) ((flush8 t).trans (decide_eq_false h7))]
      simp only [before8 m c t h]
      iintro H
      iexists (dtAt m c t)
      iexact H

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6, leaves7]
  rw [show (dats m 0 c).owesAt () t.succ = (dats m 0 c).owesAt () t.castSucc from rfl]
  rw [show (dats m 0 c).Φ t.succ = iprop(iprop(owns (c : Thread nD τ) scr fullShare (rowsAt m c t)) ∗ (∃ r, prngReg c r)) from rfl,
    inv_castSucc m c t]
  by_cases h0 : t.val % 8 = 0
  · have hn : ¬Normed t := fun h => by unfold Normed at h; omega
    rw [show outAt m c t = k0_pay5 (k0_pay1 (iblk m c 0 t) (iblk m c 1 t)) (iblk m c 2 t) from by
      unfold outAt rowsAt; rw [if_neg hn, start_first t h0]]
    have e8 : dtAt m c t = k0_pay2 (k0_pay1 (iblk m c 0 t) (iblk m c 1 t)) (iblk m c 6 t) := by
      unfold dtAt rowsAt; rw [start_first t h0]
    have es : rowsAt m c t = k0_pay1 (iblk m c 0 t) (iblk m c 1 t) := by
      unfold rowsAt; rw [start_first t h0]
    have hl := leaves8 m c t
    rw [e8] at hl
    rw [es]
    have hi := inv_any m c t.val (Nat.le_of_lt t.isLt)
    rw [PhiA_eq] at hi
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HI := hi $$ HI
    icases HI with ⟨HS, Hg⟩
    iapply (run_first c (grid0.coords t) _ _ _ _ _ _ _ _ _ _ _ _ _ _ _ _ _ _ _ _ ((first_iff t).mpr h0) (fun h => hn ((normed_iff t).mp h)) ((plain_iff t).mpr hn) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply hl; iexact H8
  · have hz : t.val ≠ 0 := fun h => h0 (by rw [h])
    rw [inv_pos m c _ _ hz, ← rowsAt_later m c t _ h0 rfl]
    simp only [before8 m c t h0]
    have hl := leaves8 m c t
    by_cases hn : Normed t
    · rw [show outAt m c t = k0_pay4 (rowsAt m c t) (iblk m c 2 t) (iblk m c 5 t) (iblk m c 4 t) (iblk m c 3 t) from if_pos hn]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_normed c (grid0.coords t) _ _ _ _ _ _ _ _ _ _ _ _ _ _ _ _ _ _ _ _ (fun h => h0 ((first_iff t).mp h)) ((normed_iff t).mpr hn) (fun h => (plain_iff t).mp h hn) (iblk m c 0 t) (iblk m c 1 t) (iblk m c 2 t) (iblk m c 3 t) (iblk m c 4 t) (iblk m c 5 t) (iblk m c 6 t) (dtAt m c t) (rowsAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply hl; iexact H8
    · rw [show outAt m c t = k0_pay5 (rowsAt m c t) (iblk m c 2 t) from if_neg hn]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_plain c (grid0.coords t) _ _ _ _ _ _ _ _ _ _ _ _ _ _ _ _ _ _ _ _ (fun h => h0 ((first_iff t).mp h)) (fun h => hn ((normed_iff t).mp h)) ((plain_iff t).mpr hn) (iblk m c 0 t) (iblk m c 1 t) (iblk m c 2 t) (iblk m c 3 t) (iblk m c 4 t) (iblk m c 5 t) (iblk m c 6 t) (dtAt m c t) (rowsAt m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iapply hl; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c :=
  inv_any m c cfg0.N le_rfl

/-! ## The run and the frame -/

set_option backward.isDefEq.respectTransparency.types false in
/-- The launch: every array of the call ends as the proof data say, and every semaphore is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjDtIdeal.Body

end
-- ==== Proof.ProjDtHost.lean ====
/- The even layer's projection call: what the host prepares before the launch (the weight columns put in the order in
   which the kernel writes them, the tiled norm weights, the mark of the columns to normalize), and the blocks of the
   operands. -/
module

public import proofs.«01_k».proof.Proof.Ffn
public import proofs.«01_k».proof.Proof.HeadNorm
public import proofs.«01_k».proof.Proof.ProjValue
public import proofs.«01_k».proof.Proof.ProjDtIdealFrame
public import proofs.«01_k».proof.Proof.Gen.ProjDtIdeal.Points
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjDtIdeal.Value

open Cert.ProjDtIdeal Cert.ProjDtIdeal.Gen

/-- The weight column that the kernel's column `l` is computed from. -/
def col (l : Fin 4096) : Fin 4112 :=
  if h : (l : ℕ) < 2048 then ⟨l, by omega⟩ else if h : (l : ℕ) < 3072 then ⟨l + 528, by omega⟩
  else if h : (l : ℕ) < 3584 then ⟨l - 1024, by omega⟩ else ⟨l + 16, by omega⟩

theorem col_val (l : Fin 4096) : (col l : ℕ) = if (l : ℕ) < 2048 then (l : ℕ) else if (l : ℕ) < 3072 then l + 528 else if (l : ℕ) < 3584 then l - 1024 else l + 16 := by
  unfold col; split_ifs <;> rfl

variable (m : (ℓ : Loc nD τ sig) → Buf (Elt Ideal) ℓ)

/-- The block index of every window at a point. -/
theorem idx : ∀ t : Fin cfg0.N, win0_0.index t = ![t.val / 8, 0] ∧ win0_1.index t = ![0, 0] ∧ win0_2.index t = ![0, t.val % 8]
    ∧ win0_3.index t = ![0, t.val % 8] ∧ win0_4.index t = ![0, t.val % 8] ∧ win0_5.index t = ![0, 0] ∧ win0_6.index t = ![0, 0]
    ∧ win0_7.index t = ![t.val / 8, t.val % 8] ∧ win0_8.index t = ![t.val / 8, 0] :=
  (by decide +kernel : ∀ t : Fin grid0.N, _)

/-! The argument arrays of the kernel, at their printed types. -/

abbrev A0 (c : Dev nD) : FVec Ideal S32768x1024 .f32 := m ((c : Thread nD τ).loc main_arg0)
abbrev A1 (c : Dev nD) : FVec Ideal S1x1024 .f32 := m ((c : Thread nD τ).loc main_arg1)
abbrev A2 (c : Dev nD) : FVec Ideal S1x1024x4112 .f32 := m ((c : Thread nD τ).loc main_arg2)
abbrev A3 (c : Dev nD) : FVec Ideal S1x64 .f32 := m ((c : Thread nD τ).loc main_arg3)
abbrev A4 (c : Dev nD) : FVec Ideal S1x64 .f32 := m ((c : Thread nD τ).loc main_arg4)

/-! What the host prepares before the launch. -/

theorem V44 (c : Dev nD) (x : S1x1024.Idx) : (V m c main_v44 : FVec Ideal S1x1024 .f32) x = A1 m c (ix2 0 (x 1)) := by
  unfold V
  simp only [hostOps0, hostOps0_1, hostOps0_2, List.flatten_cons, List.flatten_nil, List.append_nil, List.cons_append, List.nil_append]
  entry_read
  pointwise
  exact congrArg (A1 m c) (by blk_ext)

theorem V20 (c : Dev nD) (x : S1024x1024.Idx) : (V m c main_v20 : FVec Ideal S1024x1024 .bf16) x = A2 m c (ix3 0 (x 0) ⟨2560 + (x 1 : ℕ) / 64, by have := (x 1).isLt; change (x 1 : ℕ) < 1024 at this; omega⟩) := by
  unfold V
  simp only [hostOps0, hostOps0_1, hostOps0_2, List.flatten_cons, List.flatten_nil, List.append_nil, List.cons_append, List.nil_append]
  entry_read
  pointwise
  blk_ext

theorem V7 (c : Dev nD) (x : S512x512.Idx) : (V m c main_v7 : FVec Ideal S512x512 .bf16) x = if (x 0 : ℕ) / 64 = (x 1 : ℕ) / 64 then (1 : EReal) else 0 := by
  unfold V
  simp only [hostOps0, hostOps0_1, hostOps0_2, List.flatten_cons, List.flatten_nil, List.append_nil, List.cons_append, List.nil_append]
  entry_read
  simp only [StableHlo.TRef.ofBuf, StableHlo.TRef.toBuf, StableHlo.TRef.of, cast_eq]
  pointwise
  refine (congrArg (FloatOps.uitofp (F := Ideal) FTy.bf16) (Cert.ProjIdeal.Value.same_group (x 0) (x 1))).trans ?_
  split <;> simp [FloatOps.uitofp]

/-- What the buffers hold after the first `k` of the host operations that follow the head indices. -/
abbrev W (k : ℕ) (c : Dev nD) := StableHlo.after (List.flatten [hostOps0, hostOps0_1, (hostOps0_2 : List (HloOp τ sig (Elt Ideal))).take k]) (fun b => m (c, b))

theorem V16_eq (c : Dev nD) : (V m c main_v16 : FVec Ideal S1024x4096 .bf16)
    = (truncf (F := Ideal) (s := S1024x4096) (φ := .f32) .bf16 (concatenate S1024x4096 1 [⟨S1024x1024, (W m 13 c main_v9 : FVec Ideal S1024x1024 .f32)⟩, ⟨S1024x1024, (W m 13 c main_v10 : FVec Ideal S1024x1024 .f32)⟩,
        ⟨S1024x1024, (W m 13 c main_v11 : FVec Ideal S1024x1024 .f32)⟩, ⟨S1024x512, (W m 13 c main_v12 : FVec Ideal S1024x512 .f32)⟩,
        ⟨S1024x256, (W m 13 c main_v13 : FVec Ideal S1024x256 .f32)⟩, ⟨S1024x256, (W m 13 c main_v14 : FVec Ideal S1024x256 .f32)⟩]
        concatenates_S1024x1024_S1024x1024_S1024x1024_S1024x512_S1024x256_S1024x256_S1024x4096_d1) bitsLt_bf16_f32 : FVec Ideal S1024x4096 .bf16) := by
  have h : V m c main_v16 = StableHlo.after (hostOps0_2.drop 13) (W m 13 c) main_v16 := rfl
  rw [h]
  generalize W m 13 c = U
  simp only [hostOps0_2, List.drop_succ_cons, List.drop_zero]
  after_results
  rfl

theorem V35_eq (c : Dev nD) : (V m c main_v35 : FVec Ideal S1x4096 .f32)
    = shapeCast S1x4096 (concatenate S4096 0 [⟨S2048, (W m 36 c main_v21 : FVec Ideal S2048 .f32)⟩, ⟨S1024, (W m 36 c main_v27 : FVec Ideal S1024 .f32)⟩,
        ⟨S512, (W m 36 c main_v28 : FVec Ideal S512 .f32)⟩, ⟨S256, (W m 36 c main_v32 : FVec Ideal S256 .f32)⟩, ⟨S256, (W m 36 c main_v33 : FVec Ideal S256 .f32)⟩]
        concatenates_S2048_S1024_S512_S256_S256_S4096_d0) shapeCasts_S4096_S1x4096 := by
  have h : V m c main_v35 = StableHlo.after (hostOps0_2.drop 36) (W m 36 c) main_v35 := rfl
  rw [h]
  generalize W m 36 c = U
  simp only [hostOps0_2, List.drop_succ_cons, List.drop_zero]
  after_results
  rfl

theorem V42_eq (c : Dev nD) : (V m c main_v42 : FVec Ideal S1x4096 .f32)
    = shapeCast S1x4096 (concatenate S4096 0 [⟨S2048, (W m 48 c main_v36 : FVec Ideal S2048 .f32)⟩, ⟨S1024, (W m 48 c main_v37 : FVec Ideal S1024 .f32)⟩,
        ⟨S512, (W m 48 c main_v38 : FVec Ideal S512 .f32)⟩, ⟨S256, (W m 48 c main_v39 : FVec Ideal S256 .f32)⟩, ⟨S256, (W m 48 c main_v40 : FVec Ideal S256 .f32)⟩]
        concatenates_S2048_S1024_S512_S256_S256_S4096_d0) shapeCasts_S4096_S1x4096 := by
  have h : V m c main_v42 = StableHlo.after (hostOps0_2.drop 48) (W m 48 c) main_v42 := rfl
  rw [h]
  generalize W m 48 c = U
  simp only [hostOps0_2, List.drop_succ_cons, List.drop_zero]
  after_results
  rfl

/-! The parts that are joined: slices of the weights, tiled norm weights, constants. -/

theorem W9 (c : Dev nD) (d : Fin 1024) (l : Fin 1024) : (W m 13 c main_v9 : FVec Ideal S1024x1024 .f32) (ix2 d l) = A2 m c (ix3 0 d ⟨0 + l, by omega⟩) := by
  simp only [W, hostOps0, hostOps0_1, hostOps0_2, List.take_succ_cons, List.take_zero, List.flatten_cons, List.flatten_nil, List.append_nil, List.cons_append, List.nil_append]
  entry_read
  pointwise
  blk_ext

theorem W10 (c : Dev nD) (d : Fin 1024) (l : Fin 1024) : (W m 13 c main_v10 : FVec Ideal S1024x1024 .f32) (ix2 d l) = A2 m c (ix3 0 d ⟨1024 + l, by omega⟩) := by
  simp only [W, hostOps0, hostOps0_1, hostOps0_2, List.take_succ_cons, List.take_zero, List.flatten_cons, List.flatten_nil, List.append_nil, List.cons_append, List.nil_append]
  entry_read
  pointwise
  blk_ext

theorem W11 (c : Dev nD) (d : Fin 1024) (l : Fin 1024) : (W m 13 c main_v11 : FVec Ideal S1024x1024 .f32) (ix2 d l) = A2 m c (ix3 0 d ⟨2576 + l, by omega⟩) := by
  simp only [W, hostOps0, hostOps0_1, hostOps0_2, List.take_succ_cons, List.take_zero, List.flatten_cons, List.flatten_nil, List.append_nil, List.cons_append, List.nil_append]
  entry_read
  pointwise
  blk_ext

theorem W12 (c : Dev nD) (d : Fin 1024) (l : Fin 512) : (W m 13 c main_v12 : FVec Ideal S1024x512 .f32) (ix2 d l) = A2 m c (ix3 0 d ⟨2048 + l, by omega⟩) := by
  simp only [W, hostOps0, hostOps0_1, hostOps0_2, List.take_succ_cons, List.take_zero, List.flatten_cons, List.flatten_nil, List.append_nil, List.cons_append, List.nil_append]
  entry_read
  pointwise
  blk_ext

theorem W13 (c : Dev nD) (d : Fin 1024) (l : Fin 256) : (W m 13 c main_v13 : FVec Ideal S1024x256 .f32) (ix2 d l) = A2 m c (ix3 0 d ⟨3600 + l, by omega⟩) := by
  simp only [W, hostOps0, hostOps0_1, hostOps0_2, List.take_succ_cons, List.take_zero, List.flatten_cons, List.flatten_nil, List.append_nil, List.cons_append, List.nil_append]
  entry_read
  pointwise
  blk_ext

theorem W14 (c : Dev nD) (d : Fin 1024) (l : Fin 256) : (W m 13 c main_v14 : FVec Ideal S1024x256 .f32) (ix2 d l) = A2 m c (ix3 0 d ⟨3856 + l, by omega⟩) := by
  simp only [W, hostOps0, hostOps0_1, hostOps0_2, List.take_succ_cons, List.take_zero, List.flatten_cons, List.flatten_nil, List.append_nil, List.cons_append, List.nil_append]
  entry_read
  pointwise
  blk_ext

theorem W27 (c : Dev nD) (l : Fin 1024) : (W m 36 c main_v27 : FVec Ideal S1024 .f32) (ix1 l) = A3 m c (ix2 0 ⟨l % 64, by omega⟩) * Ideal.ofBits .f32 1040187392#32 := by
  simp only [W, hostOps0, hostOps0_1, hostOps0_2, List.take_succ_cons, List.take_zero, List.flatten_cons, List.flatten_nil, List.append_nil, List.cons_append, List.nil_append]
  entry_read
  pointwise
  blk_ext

theorem W32 (c : Dev nD) (l : Fin 256) : (W m 36 c main_v32 : FVec Ideal S256 .f32) (ix1 l) = A4 m c (ix2 0 ⟨l % 64, by omega⟩) := by
  simp only [W, hostOps0, hostOps0_1, hostOps0_2, List.take_succ_cons, List.take_zero, List.flatten_cons, List.flatten_nil, List.append_nil, List.cons_append, List.nil_append]
  entry_read
  pointwise
  blk_ext

theorem W33 (c : Dev nD) (l : Fin 256) : (W m 36 c main_v33 : FVec Ideal S256 .f32) (ix1 l) = (1 : EReal) := by
  simp only [W, hostOps0, hostOps0_1, hostOps0_2, List.take_succ_cons, List.take_zero, List.flatten_cons, List.flatten_nil, List.append_nil, List.cons_append, List.nil_append]
  entry_read
  pointwise

theorem W37 (c : Dev nD) (l : Fin 1024) : (W m 48 c main_v37 : FVec Ideal S1024 .f32) (ix1 l) = (1 : EReal) := by
  simp only [W, hostOps0, hostOps0_1, hostOps0_2, List.take_succ_cons, List.take_zero, List.flatten_cons, List.flatten_nil, List.append_nil, List.cons_append, List.nil_append]
  entry_read
  pointwise

theorem W39 (c : Dev nD) (l : Fin 256) : (W m 48 c main_v39 : FVec Ideal S256 .f32) (ix1 l) = (1 : EReal) := by
  simp only [W, hostOps0, hostOps0_1, hostOps0_2, List.take_succ_cons, List.take_zero, List.flatten_cons, List.flatten_nil, List.append_nil, List.cons_append, List.nil_append]
  entry_read
  pointwise

theorem W40 (c : Dev nD) (l : Fin 256) : (W m 48 c main_v40 : FVec Ideal S256 .f32) (ix1 l) = (0 : EReal) := by
  simp only [W, hostOps0, hostOps0_1, hostOps0_2, List.take_succ_cons, List.take_zero, List.flatten_cons, List.flatten_nil, List.append_nil, List.cons_append, List.nil_append]
  entry_read
  pointwise

/-! The joined arrays. -/

theorem V16 (c : Dev nD) (x : S1024x4096.Idx) : (V m c main_v16 : FVec Ideal S1024x4096 .bf16) x = A2 m c (ix3 0 (x 0) (col (x 1))) := by
  have hx : (x 1 : ℕ) < 4096 := (x 1).isLt
  rw [V16_eq]
  pointwise
  have e : ∀ l : Fin 4112, (l : ℕ) = col (x 1) → A2 m c (ix3 0 (x 0) l) = A2 m c (ix3 0 (x 0) (col (x 1))) := fun l h => by rw [Fin.ext h]
  have hc := col_val (x 1)
  by_cases h1 : (x 1 : ℕ) < 1024
  · rw [dif_pos h1]
    exact (W9 m c (x 0) _).trans (e _ (by rw [hc, if_pos (show (x 1 : ℕ) < 2048 by omega)]; dsimp only; omega))
  rw [dif_neg h1]
  by_cases h2 : (x 1 : ℕ) < 2048
  · rw [dif_pos (by omega)]
    exact (W10 m c (x 0) _).trans (e _ (by rw [hc, if_pos h2]; dsimp only; omega))
  rw [if_neg h2] at hc
  rw [dif_neg (by omega)]
  by_cases h3 : (x 1 : ℕ) < 3072
  · rw [dif_pos (by omega)]
    exact (W11 m c (x 0) _).trans (e _ (by rw [hc, if_pos h3]; dsimp only; omega))
  rw [if_neg h3] at hc
  rw [dif_neg (by omega)]
  by_cases h4 : (x 1 : ℕ) < 3584
  · rw [dif_pos (by omega)]
    exact (W12 m c (x 0) _).trans (e _ (by rw [hc, if_pos h4]; dsimp only; omega))
  rw [if_neg h4] at hc
  rw [dif_neg (by omega)]
  by_cases h5 : (x 1 : ℕ) < 3840
  · rw [dif_pos (by omega)]
    exact (W13 m c (x 0) _).trans (e _ (by rw [hc]; dsimp only; omega))
  · rw [dif_neg (by omega)]
    exact (W14 m c (x 0) _).trans (e _ (by rw [hc]; dsimp only; omega))

theorem V35q (c : Dev nD) (x : S1x4096.Idx) (h1 : 2048 ≤ (x 1 : ℕ)) (hx : (x 1 : ℕ) < 3072) : (V m c main_v35 : FVec Ideal S1x4096 .f32) x = A3 m c (ix2 0 ⟨(x 1 : ℕ) % 64, by omega⟩) * Ideal.ofBits .f32 1040187392#32 := by
  rw [V35_eq]
  pointwise
  rw [dif_neg (by omega), dif_pos (by omega), W27]
  exact congrArg (fun k => A3 m c (ix2 0 k) * Ideal.ofBits .f32 1040187392#32) (Fin.ext (by dsimp only; omega))

theorem V35k (c : Dev nD) (x : S1x4096.Idx) (h1 : 3584 ≤ (x 1 : ℕ)) (hx : (x 1 : ℕ) < 3840) : (V m c main_v35 : FVec Ideal S1x4096 .f32) x = A4 m c (ix2 0 ⟨(x 1 : ℕ) % 64, by omega⟩) := by
  rw [V35_eq]
  pointwise
  rw [dif_neg (by omega), dif_neg (by omega), dif_neg (by omega), dif_pos (by omega), W32]
  exact congrArg (fun k => A4 m c (ix2 0 k)) (Fin.ext (by dsimp only; omega))

theorem V35v (c : Dev nD) (x : S1x4096.Idx) (h1 : 3840 ≤ (x 1 : ℕ)) : (V m c main_v35 : FVec Ideal S1x4096 .f32) x = (1 : EReal) := by
  rw [V35_eq]
  pointwise
  rw [dif_neg (by omega), dif_neg (by omega), dif_neg (by omega), dif_neg (by omega), W33]

theorem V42q (c : Dev nD) (x : S1x4096.Idx) (h1 : 2048 ≤ (x 1 : ℕ)) (hx : (x 1 : ℕ) < 3072) : (V m c main_v42 : FVec Ideal S1x4096 .f32) x = (1 : EReal) := by
  rw [V42_eq]
  pointwise
  rw [dif_neg (by omega), dif_pos (by omega), W37]

theorem V42k (c : Dev nD) (x : S1x4096.Idx) (h1 : 3584 ≤ (x 1 : ℕ)) (hx : (x 1 : ℕ) < 3840) : (V m c main_v42 : FVec Ideal S1x4096 .f32) x = (1 : EReal) := by
  rw [V42_eq]
  pointwise
  rw [dif_neg (by omega), dif_neg (by omega), dif_neg (by omega), dif_pos (by omega), W39]

theorem V42v (c : Dev nD) (x : S1x4096.Idx) (h1 : 3840 ≤ (x 1 : ℕ)) : (V m c main_v42 : FVec Ideal S1x4096 .f32) x = (0 : EReal) := by
  rw [V42_eq]
  pointwise
  rw [dif_neg (by omega), dif_neg (by omega), dif_neg (by omega), dif_neg (by omega), W40]

/-! The blocks of the operands. -/

theorem blk0 (c : Dev nD) (t : Fin cfg0.N) (y : S1024x1024.Idx) (r : Fin 32768) (hr : (r : ℕ) = t.val / 8 * 1024 + y 0) :
    iblk m c 0 t y = A0 m c (ix2 r (y 1)) := by
  blk_point [iblk, V, idx t]

theorem blk1 (c : Dev nD) (t : Fin cfg0.N) (y : S1x1024.Idx) : iblk m c 1 t y = A1 m c (ix2 0 (y 1)) := by
  blk_simp [iblk, idx t]
  exact (V44 m c _).trans (congrArg (A1 m c) (by blk_ext [idx t]))

theorem blk2 (c : Dev nD) (t : Fin cfg0.N) (y : S1024x512.Idx) (l : Fin 4096) (hl : (l : ℕ) = t.val % 8 * 512 + y 1) :
    iblk m c 2 t y = A2 m c (ix3 0 (y 0) (col l)) := by
  have e0 : ((win0_2.blk t).view.emb y 0 : ℕ) = y 0 := by blk_simp [idx t]
  have e1 : ((win0_2.blk t).view.emb y 1 : ℕ) = t.val % 8 * 512 + y 1 := by blk_simp [idx t]
  blk_simp [iblk]
  exact (V16 m c _).trans (congrArg₂ (fun i j => A2 m c (ix3 0 i (col j))) (Fin.ext e0) (Fin.ext (e1.trans hl.symm)))

theorem emb3 (t : Fin cfg0.N) (y : S1x512.Idx) : ((win0_3.blk t).view.emb y 1 : ℕ) = t.val % 8 * 512 + y 1 := by
  blk_simp [idx t]
theorem emb4 (t : Fin cfg0.N) (y : S1x512.Idx) : ((win0_4.blk t).view.emb y 1 : ℕ) = t.val % 8 * 512 + y 1 := by
  blk_simp [idx t]
theorem emb5 (t : Fin cfg0.N) (y : S512x512.Idx) : (win0_5.blk t).view.emb y = y := by
  blk_ext [idx t]
theorem emb6 (t : Fin cfg0.N) (y : S1024x1024.Idx) : (win0_6.blk t).view.emb y = y := by
  blk_ext [idx t]

theorem blk3q (c : Dev nD) (t : Fin cfg0.N) (y : S1x512.Idx) (l : Fin 4096) (hl : (l : ℕ) = t.val % 8 * 512 + y 1) (h1 : 2048 ≤ (l : ℕ)) (h2 : (l : ℕ) < 3072) :
    iblk m c 3 t y = A3 m c (ix2 0 ⟨l % 64, by omega⟩) * Ideal.ofBits .f32 1040187392#32 := by
  have e := (emb3 t y).trans hl.symm
  blk_simp [iblk]
  exact (V35q m c _ (le_of_le_of_eq h1 e.symm) (lt_of_eq_of_lt e h2)).trans
    (congrArg (fun k : Fin 64 => A3 m c (ix2 0 k) * Ideal.ofBits .f32 1040187392#32) (Fin.ext (congrArg (· % 64) e)))

theorem blk3k (c : Dev nD) (t : Fin cfg0.N) (y : S1x512.Idx) (l : Fin 4096) (hl : (l : ℕ) = t.val % 8 * 512 + y 1) (h1 : 3584 ≤ (l : ℕ)) (h2 : (l : ℕ) < 3840) :
    iblk m c 3 t y = A4 m c (ix2 0 ⟨l % 64, by omega⟩) := by
  have e := (emb3 t y).trans hl.symm
  blk_simp [iblk]
  exact (V35k m c _ (le_of_le_of_eq h1 e.symm) (lt_of_eq_of_lt e h2)).trans
    (congrArg (fun k : Fin 64 => A4 m c (ix2 0 k)) (Fin.ext (congrArg (· % 64) e)))

theorem blk3v (c : Dev nD) (t : Fin cfg0.N) (y : S1x512.Idx) (l : Fin 4096) (hl : (l : ℕ) = t.val % 8 * 512 + y 1) (h1 : 3840 ≤ (l : ℕ)) :
    iblk m c 3 t y = (1 : EReal) := by
  have e := (emb3 t y).trans hl.symm
  blk_simp [iblk]
  exact V35v m c _ (le_of_le_of_eq h1 e.symm)

theorem blk4n (c : Dev nD) (t : Fin cfg0.N) (y : S1x512.Idx) (l : Fin 4096) (hl : (l : ℕ) = t.val % 8 * 512 + y 1) (h1 : 2048 ≤ (l : ℕ)) (h2 : (l : ℕ) < 3840)
    (h3 : (l : ℕ) < 3072 ∨ 3584 ≤ (l : ℕ)) : iblk m c 4 t y = (1 : EReal) := by
  have e := (emb4 t y).trans hl.symm
  blk_simp [iblk]
  rcases h3 with h | h
  · exact V42q m c _ (le_of_le_of_eq h1 e.symm) (lt_of_eq_of_lt e h)
  · exact V42k m c _ (le_of_le_of_eq h e.symm) (lt_of_eq_of_lt e h2)

theorem blk4v (c : Dev nD) (t : Fin cfg0.N) (y : S1x512.Idx) (l : Fin 4096) (hl : (l : ℕ) = t.val % 8 * 512 + y 1) (h1 : 3840 ≤ (l : ℕ)) :
    iblk m c 4 t y = (0 : EReal) := by
  have e := (emb4 t y).trans hl.symm
  blk_simp [iblk]
  exact V42v m c _ (le_of_le_of_eq h1 e.symm)

theorem blk5 (c : Dev nD) (t : Fin cfg0.N) (y : S512x512.Idx) :
    iblk m c 5 t y = if (y 0 : ℕ) / 64 = (y 1 : ℕ) / 64 then (1 : EReal) else 0 := by
  blk_simp [iblk]
  refine (V7 m c _).trans ?_
  rw [emb5 t y]

theorem blk6 (c : Dev nD) (t : Fin cfg0.N) (d l : Fin 1024) :
    iblk m c 6 t (ix2 d l) = A2 m c (ix3 0 d ⟨2560 + l / 64, by omega⟩) := by
  blk_simp [iblk]
  refine (V20 m c _).trans ?_
  rw [emb6 t (ix2 d l)]
  rfl

end Cert.ProjDtIdeal.Value
-- ==== Proof.ProjDtValue.lean ====
/- The even layer's projection call computes the reference's two arrays: the projected columns with the heads of the
   queries and keys normalized, and the step widths repeated over the columns of their heads. -/
module

public import proofs.«01_k».proof.Proof.ProjDtHost
public import proofs.«01_k».proof.Proof.Gen.ProjDtRefIdeal.Read

@[expose] public section

set_option maxRecDepth 16384

noncomputable section

open Idealize.ShloMosaic Idealize.ShloMosaic.TcCoe Idealize.SL.Sem
open Idealize.ShloMosaic.Pipeline (Dat)

namespace Cert.ProjDtIdeal.Value

open Cert.ProjDtIdeal Cert.ProjDtIdeal.Gen

variable (m : (ℓ : Loc nD τ sig) → Buf (Elt Ideal) ℓ)

/-! The normalized rows, their product with the weights, and the product's heads. -/

/-- The normalized rows. -/
def HN (c : Dev nD) (r : Fin 32768) (d : Fin 1024) : EReal := Ffn.rms (fun q => A0 m c (ix2 r q)) (fun q => A1 m c (ix2 0 q)) d
/-- Their product with the weights. -/
def P (c : Dev nD) (r : Fin 32768) (l : Fin 4112) : EReal := ∑ d, HN m c r d * A2 m c (ix3 0 d l)
/-- The product's columns in the order in which the kernel writes them. -/
def Q (c : Dev nD) (r : Fin 32768) (l : Fin 4096) : EReal := P m c r (col l)
/-- A column divided by its head's root mean square. -/
def N (c : Dev nD) (r : Fin 32768) (l : Fin 4096) : EReal :=
  Q m c r l * Ideal.rsqrt (Ideal.div (∑ s : Fin 64, Q m c r ⟨l / 64 * 64 + s, by omega⟩ * Q m c r ⟨l / 64 * 64 + s, by omega⟩) (Ideal.ofBits .f32 1115684864#32)
          + Ideal.ofBits .f32 897988541#32)

/-! What the body computes at a point. -/

theorem rows_at (c : Dev nD) (t : Fin cfg0.N) (y : S1024x1024.Idx) (r : Fin 32768) (hr : (r : ℕ) = t.val / 8 * 1024 + y 0) :
    Body.rowsAt m c t y = HN m c r (y 1) := by
  have hs : (r : ℕ) = (Body.start t).val / 8 * 1024 + y 0 := by rw [hr]; unfold Body.start; dsimp only; omega
  unfold Body.rowsAt
  generalize Body.start t = u at hs
  pointwise [k0_pay1, blk1]
  have h : ∀ q : Fin 1024, iblk m c 0 u (ix2 (y 0) q) = A0 m c (ix2 r q) := fun q => blk0 m c u (ix2 (y 0) q) r hs
  simp only [h]
  rw [blk0 m c u y r hs]
  rfl

theorem dot_at (c : Dev nD) (t : Fin cfg0.N) (h : FVec Ideal S1024x1024 .bf16) (y : S1024x512.Idx) (r : Fin 32768) (l : Fin 4096)
    (hh : ∀ d, h (ix2 (y 0) d) = HN m c r d) (hl : (l : ℕ) = t.val % 8 * 512 + y 1) :
    k0_pay5 (F := Ideal) h (iblk m c 2 t) y = Q m c r l := by
  have hb : ∀ d : Fin 1024, iblk m c 2 t (ix2 d (y 1)) = A2 m c (ix3 0 d (col l)) := fun d => blk2 m c t (ix2 d (y 1)) l hl
  pointwise [k0_pay5, k0_pay3]
  simp only [hh, hb]
  rfl

theorem dt_at (c : Dev nD) (t : Fin cfg0.N) (y : S1024x1024.Idx) (r : Fin 32768) (hr : (r : ℕ) = t.val / 8 * 1024 + y 0)
    (l : Fin 1024) (hl : (l : ℕ) = y 1) : Body.dtAt m c t y = P m c r ⟨2560 + l / 64, by omega⟩ := by
  have hh : ∀ d : Fin 1024, Body.rowsAt m c t (ix2 (y 0) d) = HN m c r d := fun d => rows_at m c t (ix2 (y 0) d) r hr
  have hy : (y 1) = l := Fin.ext hl.symm
  unfold Body.dtAt
  generalize Body.start t = u
  generalize Body.rowsAt m c t = h at hh
  pointwise [k0_pay2]
  rw [hy]
  simp only [hh, blk6]
  rfl

/-- The factor of a normalized column block: the head's reciprocal root mean square where the mark says so, times the tiled weight. -/
theorem norm_at (c : Dev nD) (t : Fin cfg0.N) (h : FVec Ideal S1024x1024 .bf16) (y : S1024x512.Idx) (r : Fin 32768) (l : Fin 4096)
    (hh : ∀ d, h (ix2 (y 0) d) = HN m c r d) (hl : (l : ℕ) = t.val % 8 * 512 + y 1) (a b : EReal)
    (ha : iblk m c 4 t (ix2 0 (y 1)) = a) (hb : iblk m c 3 t (ix2 0 (y 1)) = b) :
    k0_pay4 (F := Ideal) h (iblk m c 2 t) (iblk m c 5 t) (iblk m c 4 t) (iblk m c 3 t) y
      = Q m c r l * ((if 0 < a then Ideal.rsqrt (Ideal.div (∑ s : Fin 64, Q m c r ⟨l / 64 * 64 + s, by omega⟩ * Q m c r ⟨l / 64 * 64 + s, by omega⟩) (Ideal.ofBits .f32 1115684864#32)
          + Ideal.ofBits .f32 897988541#32) else 1) * b) := by
  have hp : ∀ d : Fin 512, (∑ k : Fin 1024, h (ix2 (y 0) k) * iblk m c 2 t (ix2 k d)) = Q m c r ⟨t.val % 8 * 512 + d, by omega⟩ := fun d =>
    Finset.sum_congr rfl fun k _ => congrArg₂ (· * ·) (hh k) (blk2 m c t (ix2 k d) _ rfl)
  have hy : (y 1 : ℕ) < 512 := (y 1).isLt
  have hl' : (⟨t.val % 8 * 512 + (y 1 : ℕ), by omega⟩ : Fin 4096) = l := Fin.ext hl.symm
  have hs : ∀ s : Fin 64, (⟨t.val % 8 * 512 + ((y 1 : ℕ) / 64 * 64 + s), by omega⟩ : Fin 4096) = ⟨l / 64 * 64 + s, by omega⟩ := fun s => Fin.ext (by dsimp only; omega)
  have hg : (∑ x : Fin 512, Q m c r ⟨t.val % 8 * 512 + x, by omega⟩ * Q m c r ⟨t.val % 8 * 512 + x, by omega⟩ * (if (x : ℕ) / 64 = (y 1 : ℕ) / 64 then (1 : EReal) else 0))
      = ∑ s : Fin 64, Q m c r ⟨l / 64 * 64 + s, by omega⟩ * Q m c r ⟨l / 64 * 64 + s, by omega⟩ :=
    (HeadNorm.gsum (fun x => Q m c r ⟨t.val % 8 * 512 + x, by omega⟩ * Q m c r ⟨t.val % 8 * 512 + x, by omega⟩) (y 1)).trans
      (Finset.sum_congr rfl fun s _ => congrArg₂ (fun i j => Q m c r i * Q m c r j) (hs s) (hs s))
  pointwise [k0_pay4, k0_pay3, blk5]
  rw [ha, hb]
  simp only [hp]
  refine congrArg₂ (· * ·) ((hp (y 1)).trans (congrArg (Q m c r) hl')) (congrArg (· * b) ?_)
  by_cases h0 : 0 < a
  · rw [if_pos h0, if_pos h0]
    exact congrArg Ideal.rsqrt (congrArg (· + _) ((congrArg (· * _) hg).trans (HeadNorm.mean _)))
  · rw [if_neg h0, if_neg h0]

/-! The reference's column groups. -/

open Cert.ProjDtRefIdeal.Read in
theorem ref13 (c : Dev nD) (r : Fin 32768) (d : Fin 1024) : val_main_v13 (F := Ideal) (A0 m c) (A1 m c) (ix2 r d) = HN m c r d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

open Cert.ProjDtRefIdeal.Read in
theorem ref15 (c : Dev nD) (r : Fin 32768) (l : Fin 4112) : val_main_v15 (F := Ideal) (A0 m c) (A1 m c) (A2 m c) (ix2 r l) = P m c r l := by
  pointwise [val_main_v15, val_main_v14]
  simp only [ref13]
  rfl

theorem P_col (c : Dev nD) (r : Fin 32768) (j : Fin 4112) (l : Fin 4096) (h : (j : ℕ) = col l) : P m c r j = Q m c r l :=
  congrArg (P m c r) (Fin.ext h)

theorem col_q (l : Fin 4096) (h1 : 2048 ≤ (l : ℕ)) (h2 : (l : ℕ) < 3072) : (col l : ℕ) = l + 528 := by
  rw [col_val, if_neg (by omega), if_pos h2]
theorem col_k (l : Fin 4096) (h1 : 3584 ≤ (l : ℕ)) : (col l : ℕ) = l + 16 := by
  rw [col_val, if_neg (by omega), if_neg (by omega), if_neg (by omega)]

open Cert.ProjDtRefIdeal.Read in
theorem ref_q (c : Dev nD) (r : Fin 32768) (l : Fin 1024) : val_main_v55 (F := Ideal) (A0 m c) (A1 m c) (A2 m c) (A3 m c) (ix2 r l)
    = N m c r ⟨2048 + l, by omega⟩ * A3 m c (ix2 0 ⟨l % 64, by omega⟩) * Ideal.ofBits .f32 1040187392#32 := by
  have hq : ∀ j : Fin 1024, P m c r ⟨2576 + j, by omega⟩ = Q m c r ⟨2048 + j, by omega⟩ := fun j =>
    P_col m c r _ _ (by rw [col_q _ (by dsimp only; omega) (by dsimp only; omega)]; dsimp only; omega)
  have hs : ∀ s : Fin 64, P m c r ⟨2576 + ((l : ℕ) / 64 * 64 + s), by omega⟩ = Q m c r ⟨(2048 + l : ℕ) / 64 * 64 + s, by omega⟩ := fun s =>
    P_col m c r _ _ (by rw [col_q _ (by dsimp only; omega) (by dsimp only; omega)]; dsimp only; omega)
  pointwise [val_main_v55, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v20, val_main_cst_2, val_main_cst_3, val_main_cst_4, val_main_cst_5]
  simp only [ref15, hs]
  rw [hq l]
  rfl

open Cert.ProjDtRefIdeal.Read in
theorem ref_k (c : Dev nD) (r : Fin 32768) (l : Fin 256) : val_main_v56 (F := Ideal) (A0 m c) (A1 m c) (A2 m c) (A4 m c) (ix2 r l)
    = N m c r ⟨3584 + l, by omega⟩ * A4 m c (ix2 0 ⟨l % 64, by omega⟩) := by
  have hq : ∀ j : Fin 256, P m c r ⟨3600 + j, by omega⟩ = Q m c r ⟨3584 + j, by omega⟩ := fun j =>
    P_col m c r _ _ (by rw [col_k _ (by dsimp only; omega)]; dsimp only; omega)
  have hs : ∀ s : Fin 64, P m c r ⟨3600 + ((l : ℕ) / 64 * 64 + s), by omega⟩ = Q m c r ⟨(3584 + l : ℕ) / 64 * 64 + s, by omega⟩ := fun s =>
    P_col m c r _ _ (by rw [col_k _ (by dsimp only; omega)]; dsimp only; omega)
  pointwise [val_main_v56, val_main_v54, val_main_v53, val_main_v52, val_main_v51, val_main_v50, val_main_v49, val_main_v48, val_main_v47, val_main_v46, val_main_v45, val_main_v44, val_main_v43, val_main_v42, val_main_v41, val_main_v40, val_main_v21, val_main_cst_6, val_main_cst_7, val_main_cst_8]
  simp only [ref15, hs]
  rw [hq l]
  rfl

open Cert.ProjDtRefIdeal.Read in
theorem ref_at (c : Dev nD) (r : Fin 32768) (l : Fin 4096) :
    val_main_v58 (F := Ideal) (A0 m c) (A1 m c) (A2 m c) (A3 m c) (A4 m c) (ix2 r l)
      = if 2048 ≤ (l : ℕ) ∧ (l : ℕ) < 3072 then N m c r l * A3 m c (ix2 0 ⟨l % 64, by omega⟩) * Ideal.ofBits .f32 1040187392#32
        else if 3584 ≤ (l : ℕ) ∧ (l : ℕ) < 3840 then N m c r l * A4 m c (ix2 0 ⟨l % 64, by omega⟩) else Q m c r l := by
  have hc := col_val l
  pointwise [val_main_v58, val_main_v57, val_main_v16, val_main_v17, val_main_v18, val_main_v22]
  simp only [ref15, ref_q, ref_k]
  by_cases h1 : (l : ℕ) < 1024
  · rw [dif_pos h1, if_neg (show ¬(2048 ≤ (l : ℕ) ∧ (l : ℕ) < 3072) by omega), if_neg (show ¬(3584 ≤ (l : ℕ) ∧ (l : ℕ) < 3840) by omega)]
    exact P_col m c r _ _ (by rw [hc, if_pos (show (l : ℕ) < 2048 by omega)])
  rw [dif_neg h1]
  by_cases h2 : (l : ℕ) < 2048
  · rw [dif_pos (by omega), if_neg (show ¬(2048 ≤ (l : ℕ) ∧ (l : ℕ) < 3072) by omega), if_neg (show ¬(3584 ≤ (l : ℕ) ∧ (l : ℕ) < 3840) by omega)]
    exact P_col m c r _ _ (by rw [hc, if_pos (show (l : ℕ) < 2048 by omega)]; dsimp only; omega)
  rw [dif_neg (by omega)]
  by_cases h3 : (l : ℕ) < 3072
  · rw [dif_pos (by omega), if_pos (show 2048 ≤ (l : ℕ) ∧ (l : ℕ) < 3072 by omega)]
    have e : (⟨2048 + ((l : ℕ) - 1024 - 1024), by omega⟩ : Fin 4096) = l := Fin.ext (by dsimp only; omega)
    have e' : (⟨((l : ℕ) - 1024 - 1024) % 64, by omega⟩ : Fin 64) = ⟨l % 64, by omega⟩ := Fin.ext (by dsimp only; omega)
    rw [e, e']
  rw [dif_neg (by omega), if_neg (show ¬(2048 ≤ (l : ℕ) ∧ (l : ℕ) < 3072) by omega)]
  by_cases h4 : (l : ℕ) < 3584
  · rw [dif_pos (by omega), if_neg (show ¬(3584 ≤ (l : ℕ) ∧ (l : ℕ) < 3840) by omega)]
    exact P_col m c r _ _ (by rw [hc, if_neg h2, if_neg h3, if_pos h4]; dsimp only; omega)
  rw [dif_neg (by omega)]
  by_cases h5 : (l : ℕ) < 3840
  · rw [dif_pos (by omega), if_pos (show 3584 ≤ (l : ℕ) ∧ (l : ℕ) < 3840 by omega)]
    have e : (⟨3584 + ((l : ℕ) - 1024 - 1024 - 1024 - 512), by omega⟩ : Fin 4096) = l := Fin.ext (by dsimp only; omega)
    have e' : (⟨((l : ℕ) - 1024 - 1024 - 1024 - 512) % 64, by omega⟩ : Fin 64) = ⟨l % 64, by omega⟩ := Fin.ext (by dsimp only; omega)
    rw [e, e']
  · rw [dif_neg (by omega), if_neg (show ¬(3584 ≤ (l : ℕ) ∧ (l : ℕ) < 3840) by omega)]
    exact P_col m c r _ _ (by rw [hc, if_neg h2, if_neg h3, if_neg h4]; dsimp only; omega)

open Cert.ProjDtRefIdeal.Read in
theorem ref_dt (c : Dev nD) (r : Fin 32768) (l : Fin 1024) :
    val_main_v60 (F := Ideal) (A0 m c) (A1 m c) (A2 m c) (ix2 r l) = P m c r ⟨2560 + l / 64, by omega⟩ := by
  pointwise [val_main_v60, val_main_v59, val_main_v19]
  simp only [ref15]

/-! The result arrays. -/

/-- The first result's block at a point is the reference's. -/
theorem out_at (c : Dev nD) (t : Fin cfg0.N) (y : S1024x512.Idx) (r : Fin 32768) (l : Fin 4096) (hr : (r : ℕ) = t.val / 8 * 1024 + y 0)
    (hl : (l : ℕ) = t.val % 8 * 512 + y 1) : Body.outAt m c t y
      = Cert.ProjDtRefIdeal.Read.val_main_v58 (F := Ideal) (A0 m c) (A1 m c) (A2 m c) (A3 m c) (A4 m c) (ix2 r l) := by
  have hy : (y 1 : ℕ) < 512 := (y 1).isLt
  have hh : ∀ d : Fin 1024, Body.rowsAt m c t (ix2 (y 0) d) = HN m c r d := fun d => rows_at m c t (ix2 (y 0) d) r hr
  rw [ref_at]
  unfold Body.outAt
  by_cases hn : Body.Normed t
  · rw [if_pos hn]
    obtain ⟨n1, n2⟩ := hn
    by_cases h1 : (l : ℕ) < 3072
    · rw [if_pos (by omega), norm_at m c t _ y r l hh hl 1 _ (blk4n m c t _ l hl (by omega) (by omega) (by omega)) (blk3q m c t _ l hl (by omega) h1), if_pos one_pos]
      simp only [N, mul_assoc]
    rw [if_neg (by omega)]
    by_cases h2 : (l : ℕ) < 3840
    · rw [if_pos (by omega), norm_at m c t _ y r l hh hl 1 _ (blk4n m c t _ l hl (by omega) (by omega) (by omega)) (blk3k m c t _ l hl (by omega) h2), if_pos one_pos]
      simp only [N, mul_assoc]
    · rw [if_neg (by omega), norm_at m c t _ y r l hh hl 0 1 (blk4v m c t _ l hl (by omega)) (blk3v m c t _ l hl (by omega)), if_neg (lt_irrefl _), mul_one, mul_one]
  · rw [if_neg hn, dot_at m c t _ y r l hh hl]
    unfold Body.Normed at hn
    rw [if_neg (by omega), if_neg (by omega)]

/-- The first result array is the reference's. -/
theorem final7 (c : Dev nD) : (Body.dats m 0 c).arrAt 7 cfg0.N
    = Cert.ProjDtRefIdeal.Read.val_main_v58 (F := Ideal) (A0 m c) (A1 m c) (A2 m c) (A3 m c) (A4 m c) := by
  refine (Body.dats m 0 c).arrAt_eq_of_covers 7 _ (by decide +kernel) fun t hf y => ?_
  have hN : t.val < 256 := lt_of_lt_of_eq t.isLt N_0
  have hy0 : (y 0 : ℕ) < 1024 := (y 0).isLt
  have hy1 : (y 1 : ℕ) < 512 := (y 1).isLt
  blk_simp
  rw [Body.after7]
  have he : ((cfg0.win 7).blk t).view.emb y = ix2 ⟨t.val / 8 * 1024 + y 0, by omega⟩ ⟨t.val % 8 * 512 + y 1, by omega⟩ := by
    blk_ext [idx t]
  exact (out_at m c t y _ _ rfl rfl).trans (congrArg _ he.symm)

/-- The second result array is the reference's. -/
theorem final8 (c : Dev nD) : (Body.dats m 0 c).arrAt 8 cfg0.N
    = Cert.ProjDtRefIdeal.Read.val_main_v60 (F := Ideal) (A0 m c) (A1 m c) (A2 m c) := by
  refine (Body.dats m 0 c).arrAt_eq_of_covers 8 _ (by decide +kernel) fun t hf y => ?_
  have hN : t.val < 256 := lt_of_lt_of_eq t.isLt N_0
  have hy0 : (y 0 : ℕ) < 1024 := (y 0).isLt
  have hy1 : (y 1 : ℕ) < 1024 := (y 1).isLt
  blk_simp
  rw [Body.after8]
  have he : ((cfg0.win 8).blk t).view.emb y = ix2 ⟨t.val / 8 * 1024 + y 0, by omega⟩ ⟨y 1, by omega⟩ := by
    blk_ext [idx t]
  exact ((dt_at m c t y _ rfl ⟨y 1, hy1⟩ rfl).trans (ref_dt m c _ _).symm).trans (congrArg _ he.symm)

/-- The run of the kernel: both results are the reference's arrays, the arguments end unchanged. -/
theorem run_results (ρ : Dev nD → PrngReg) : θ_run defs (onTc (τ := τ) (main (F := Ideal))) ⟨m, fun _ => 0, ρ⟩ fun r => ∀ c : Dev nD,
      r.2.mem ((c.tc : Thread nD τ).loc main_v45_0) = Cert.ProjDtRefIdeal.Read.val_main_v58 (F := Ideal) (A0 m c) (A1 m c) (A2 m c) (A3 m c) (A4 m c)
      ∧ r.2.mem ((c.tc : Thread nD τ).loc main_v45_1) = Cert.ProjDtRefIdeal.Read.val_main_v60 (F := Ideal) (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 7).trans (final7 m c), ((h.1 c).1 8).trans (final8 m c), h.2.1 c⟩)
    (θ_run_and (Body.run_main m ρ) (Body.frame m ρ))

end Cert.ProjDtIdeal.Value
-- ==== Proof.SwaPair.lean ====
module

public import proofs.«01_k».proof.Proof.Gen.SwaIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaIdeal.Value
open Cert.SwaIdeal Cert.SwaIdeal.Gen

/-- The weights of one row: the exponentials of the scores over their sum and the sink's exponential. -/
def soft (s : Fin 256 → EReal) (sink : EReal) (j : Fin 256) : EReal :=
  Ideal.div (Ideal.exp (s j - max (Finset.fold max (Ideal.ofBits FTy.f32 4286578688#32) s Finset.univ) sink))
    (∑ x, Ideal.exp (s x - max (Finset.fold max (Ideal.ofBits FTy.f32 4286578688#32) s Finset.univ) sink)
      + Ideal.exp (sink - max (Finset.fold max (Ideal.ofBits FTy.f32 4286578688#32) s Finset.univ) sink))

/-- The keys (or values) a block sees: the block before it and then itself. -/
def cat (a b : S1x128x256.Idx → EReal) (j d : Fin 256) : EReal :=
  if h : (j : ℕ) < 128 then a (ix3 0 ⟨j, h⟩ d) else b (ix3 0 ⟨j - 128, by omega⟩ d)

/-- What the first block of a sequence adds to the scores of the block before it. -/
def firstBias (n : ℕ) (j : Fin 256) : EReal := if n = 0 ∧ (j : ℕ) < 128 then ⊥ else 0

/-- One block's result, lane by lane, from the blocks the kernel loads and the bias it keeps. -/
def blkRes (qb : S1x128x1024.Idx → EReal) (sk : S16.Idx → EReal) (kp kc vp vc : S1x128x256.Idx → EReal)
    (B : S16x128x256.Idx → EReal) (n : ℕ) (y : S1x128x1024.Idx) : EReal :=
  ∑ j, soft (fun j => ∑ l : Fin 64, qb (ix3 0 (y 1) ⟨(y 2).val / 64 * 64 + l, by have := (y 2).isLt; change _ < 1024 at this; omega⟩)
        * cat kp kc j ⟨(y 2).val / 256 * 64 + l, by have := (y 2).isLt; change _ < 1024 at this; omega⟩
      + B (ix3 ⟨(y 2).val / 64, by have := (y 2).isLt; change _ < 1024 at this; omega⟩ (y 1) j) + firstBias n j)
      (sk (ix1 ⟨(y 2).val / 64, by have := (y 2).isLt; change _ < 1024 at this; omega⟩)) j
    * cat vp vc j ⟨(y 2).val / 256 * 64 + (y 2).val % 64, by have := (y 2).isLt; change _ < 1024 at this; omega⟩

/-- Two heads' result as the kernel computes it, from the masked keys and values. -/
def pairOut (first : FVec Ideal S128x256 .f32) (lo : IVec S1x128 1) (klo khi vlo vhi : FVec Ideal S256x128 .bf16) (q : FVec Ideal S1x128x128 .bf16)
    (b0 b1 : FVec Ideal S1x128x256 .f32) (s0 s1 : EReal) : FVec Ideal S1x128x128 .bf16 :=
  k0_pay39 (F := Ideal) vhi (k0_pay37 first lo klo vlo q b0 s0) (k0_pay38 first lo khi q b1) s1

theorem pair_at (first : FVec Ideal S128x256 .f32) (lo : IVec S1x128 1) (klo khi vlo vhi : FVec Ideal S256x128 .bf16) (q : FVec Ideal S1x128x128 .bf16)
    (b0 b1 : FVec Ideal S1x128x256 .f32) (s0 s1 : EReal) (y : S1x128x128.Idx) : pairOut first lo klo khi vlo vhi q b0 b1 s0 s1 y
      = (∑ j, soft (fun j => ∑ l, Scalar.select (lo (ix2 0 l)) (q (ix3 0 (y 1) l) * klo (ix2 j l)) 0 + b0 (ix3 0 (y 1) j) + first (ix2 (y 1) j)) s0 j * vlo (ix2 j (y 2)))
        + ∑ j, soft (fun j => ∑ l, Scalar.select (lo (ix2 0 l)) 0 (q (ix3 0 (y 1) l) * khi (ix2 j l)) + b1 (ix3 0 (y 1) j) + first (ix2 (y 1) j)) s1 j * vhi (ix2 j (y 2)) := by
  pointwise [pairOut, k0_pay39, k0_pay37, k0_pay38, k0_pay36]
  rfl

theorem lo_word : ∀ l : Fin 128, IntOp.cmpi CmpIPredicate.slt (BitVec.ofNat 32 l) 64#32 = if (l : ℕ) < 64 then 1#1 else 0#1 := by decide +kernel

theorem lo_at (l : Fin 128) : k0_pay29 (ix2 0 l) = if (l : ℕ) < 64 then 1#1 else 0#1 := by
  pointwise [k0_pay29]
  exact lo_word l

theorem lo_sum (f : Fin 128 → EReal) : ∑ l : Fin 128, Scalar.select (k0_pay29 (ix2 0 l)) (f l) 0 = ∑ l : Fin 64, f ⟨l, by omega⟩ := by
  refine (Fin.sum_univ_add (a := 64) (b := 64) (fun l : Fin (64 + 64) => Scalar.select (k0_pay29 (ix2 0 l)) (f l) 0)).trans ?_
  simp [lo_at, Scalar.select, Fin.castAdd, Fin.castLE]

theorem hi_sum (f : Fin 128 → EReal) : ∑ l : Fin 128, Scalar.select (k0_pay29 (ix2 0 l)) 0 (f l) = ∑ l : Fin 64, f ⟨64 + l, by omega⟩ := by
  refine (Fin.sum_univ_add (a := 64) (b := 64) (fun l : Fin (64 + 64) => Scalar.select (k0_pay29 (ix2 0 l)) 0 (f l))).trans ?_
  simp [lo_at, Scalar.select, Fin.castAdd, Fin.castLE, Fin.natAdd]

theorem coords_at : ∀ t : Fin cfg0.N, (grid0.coords t 1).val = t.val % 32 := by decide +kernel

theorem first_word : ∀ (n : Fin 32) (j : Fin 256), IntOp.andi (Scalar.cmpi CmpIPredicate.eq (BitVec.ofNat 32 n) 0#32)
    (IntOp.cmpi CmpIPredicate.slt (BitVec.ofNat 32 j) 128#32) = if n.val = 0 ∧ (j : ℕ) < 128 then 1#1 else 0#1 := by decide +kernel

theorem negInf : Ideal.ofBits FTy.f32 4286578688#32 = (⊥ : EReal) := by
  simp [Ideal.ofBits, Ideal.ieee]

theorem first_at (t : Fin cfg0.N) (r : Fin 128) (j : Fin 256) : k0_pay28 (F := Ideal) (grid0.coords t) (ix2 r j) = firstBias (t.val % 32) j := by
  pointwise [k0_pay28]
  rw [coords_at, first_word ⟨t.val % 32, by omega⟩ j, negInf]
  by_cases h : t.val % 32 = 0 ∧ (j : ℕ) < 128 <;> simp [firstBias, h, Scalar.select]

theorem at_coords {n : ℕ} (y : (⟨3, ![1, 128, n]⟩ : Shape).Idx) (r : Fin 128) (d : Fin n) (h1 : (y 1).val = r.val) (h2 : (y 2).val = d.val) : y = ix3 0 r d := by
  have key : ∀ (a a' : Fin 1) (b b' : Fin 128) (c c' : Fin n), a = a' → b = b' → c = c' → ix3 a b c = ix3 a' b' c' := by
    intro a a' b b' c c' h h' h''
    subst h h' h''
    rfl
  exact (eq_ix3 y).trans (key _ _ _ _ _ _ (Subsingleton.elim _ _) (Fin.ext h1) (Fin.ext h2))

/-- The result of one lane: the rows' weights against the values. -/
def lane (s : Fin 256 → EReal) (sink : EReal) (v : Fin 256 → EReal) : EReal := ∑ j, soft s sink j * v j

theorem lane_zero (s : Fin 256 → EReal) (sink : EReal) : lane s sink (fun _ => 0) = 0 := by simp [lane]

/-- The scores of the low and of the high head of a pair, as the kernel computes them. -/
def loScore (q : FVec Ideal S1x128x128 .bf16) (k : FVec Ideal S256x128 .bf16) (b : FVec Ideal S1x128x256 .f32) (f : FVec Ideal S128x256 .f32)
    (r : Fin 128) (j : Fin 256) : EReal :=
  ∑ l, Scalar.select (k0_pay29 (ix2 0 l)) ((q (ix3 0 r l) : EReal) * (k (ix2 j l) : EReal)) 0 + (b (ix3 0 r j) : EReal) + (f (ix2 r j) : EReal)

def hiScore (q : FVec Ideal S1x128x128 .bf16) (k : FVec Ideal S256x128 .bf16) (b : FVec Ideal S1x128x256 .f32) (f : FVec Ideal S128x256 .f32)
    (r : Fin 128) (j : Fin 256) : EReal :=
  ∑ l, Scalar.select (k0_pay29 (ix2 0 l)) 0 ((q (ix3 0 r l) : EReal) * (k (ix2 j l) : EReal)) + (b (ix3 0 r j) : EReal) + (f (ix2 r j) : EReal)

theorem pair_lane (first : FVec Ideal S128x256 .f32) (klo khi vlo vhi : FVec Ideal S256x128 .bf16) (q : FVec Ideal S1x128x128 .bf16)
    (b0 b1 : FVec Ideal S1x128x256 .f32) (s0 s1 : EReal) (r e : Fin 128) : pairOut first k0_pay29 klo khi vlo vhi q b0 b1 s0 s1 (ix3 0 r e)
      = lane (loScore q klo b0 first r) s0 (fun j => vlo (ix2 j e)) + lane (hiScore q khi b1 first r) s1 (fun j => vhi (ix2 j e)) :=
  pair_at _ _ _ _ _ _ _ _ _ _ _ _

/-- The keys (or values) of one key-value pair of heads. -/
def cat1 (a b : FVec Ideal S1x128x128 .bf16) (j : Fin 256) (d : Fin 128) : EReal :=
  if h : (j : ℕ) < 128 then a (ix3 0 ⟨j, h⟩ d) else b (ix3 0 ⟨j - 128, by omega⟩ d)

section Reads
variable (a b : FVec Ideal S1x128x128 .bf16) (j : Fin 256) (l : Fin 128)

theorem pay30_at : k0_pay30 (F := Ideal) a b (ix2 j l) = cat1 a b j l := by pointwise [k0_pay30]; rfl
theorem pay32_at : k0_pay32 (F := Ideal) a b (ix2 j l) = cat1 a b j ⟨(l + 128 - 64) % 128, by omega⟩ := by pointwise [k0_pay32, k0_pay30]; rfl
theorem pay34_at : k0_pay34 (F := Ideal) a b (ix2 j l) = if (l : ℕ) < 64 then cat1 a b j l else 0 := by
  pointwise [k0_pay34, k0_pay33, k0_pay31]; rw [lo_at]; by_cases h : (l : ℕ) < 64 <;> simp only [h, if_true, if_false, Scalar.select] <;> rfl
theorem pay35_at : k0_pay35 (F := Ideal) k0_pay29 (k0_pay33 a b) (ix2 j l) = if (l : ℕ) < 64 then 0 else cat1 a b j ⟨(l + 128 - 64) % 128, by omega⟩ := by
  pointwise [k0_pay35, k0_pay33, k0_pay31]; rw [lo_at]; by_cases h : (l : ℕ) < 64 <;> simp only [h, if_true, if_false, Scalar.select] <;> rfl
theorem pay45_at : k0_pay45 (F := Ideal) a b (ix2 j l) = cat1 a b j l := by pointwise [k0_pay45]; rfl
theorem pay47_at : k0_pay47 (F := Ideal) a b (ix2 j l) = cat1 a b j ⟨(l + 128 - 64) % 128, by omega⟩ := by pointwise [k0_pay47, k0_pay45]; rfl
theorem pay48_at : k0_pay48 (F := Ideal) k0_pay29 a b (ix2 j l) = if (l : ℕ) < 64 then cat1 a b j ⟨(l + 128 - 64) % 128, by omega⟩ else 0 := by
  pointwise [k0_pay48, k0_pay46]; rw [lo_at]; by_cases h : (l : ℕ) < 64 <;> simp only [h, if_true, if_false, Scalar.select] <;> rfl
theorem pay49_at : k0_pay49 (F := Ideal) k0_pay29 a b (ix2 j l) = if (l : ℕ) < 64 then 0 else cat1 a b j l := by
  pointwise [k0_pay49, k0_pay46]; rw [lo_at]; by_cases h : (l : ℕ) < 64 <;> simp only [h, if_true, if_false, Scalar.select] <;> rfl
end Reads

/-- The lane of the queries, the lane of the keys and values, and the two heads that a pair of heads reads. -/
def qLane (p : Fin 8) (l : Fin 128) : Fin 1024 := ⟨128 * p.val + l, by omega⟩
def kLane (p : Fin 8) (l : Fin 128) : Fin 256 := ⟨p.val / 4 * 128 + l, by omega⟩
def head0 (p : Fin 8) : Fin 16 := ⟨2 * p.val, by omega⟩
def head1 (p : Fin 8) : Fin 16 := ⟨2 * p.val + 1, by omega⟩

section Pair
variable (x : S1x128x128.Idx) (y : S1x128x1024.Idx) (first : FVec Ideal S128x256 .f32) (q kp kc vp vc : FVec Ideal S1x128x128 .bf16)
  (b0 b1 : FVec Ideal S1x128x256 .f32) (s0 s1 : EReal) (r e : Fin 128)
  (qb : S1x128x1024.Idx → EReal) (sk : S16.Idx → EReal) (KP KC VP VC : S1x128x256.Idx → EReal)
  (B : S16x128x256.Idx → EReal) (n : ℕ) (p : Fin 8)
  (hf : ∀ r j, first (ix2 r j) = firstBias n j)
  (hq : ∀ r l, q (ix3 0 r l) = qb (ix3 0 r (qLane p l)))
  (hkp : ∀ j l, kp (ix3 0 j l) = KP (ix3 0 j (kLane p l)))
  (hkc : ∀ j l, kc (ix3 0 j l) = KC (ix3 0 j (kLane p l)))
  (hvp : ∀ j l, vp (ix3 0 j l) = VP (ix3 0 j (kLane p l)))
  (hvc : ∀ j l, vc (ix3 0 j l) = VC (ix3 0 j (kLane p l)))
  (hb0 : ∀ r j, b0 (ix3 0 r j) = B (ix3 (head0 p) r j))
  (hb1 : ∀ r j, b1 (ix3 0 r j) = B (ix3 (head1 p) r j))
  (hs0 : s0 = sk (ix1 (head0 p))) (hs1 : s1 = sk (ix1 (head1 p)))
include hf hq hkp hkc hvp hvc hb0 hb1 hs0 hs1

/-- A pair of heads over masked keys and values is the two heads' results, each over its own lanes. `o` is the key-value head's first lane. -/
theorem core (klo khi vlo vhi : FVec Ideal S256x128 .bf16) (o : Fin 128) (ho : o.val = p.val / 2 % 2 * 64)
    (hklo : ∀ j (l : Fin 64), klo (ix2 j ⟨l, by omega⟩) = cat1 kp kc j ⟨o + l, by omega⟩)
    (hkhi : ∀ j (l : Fin 64), khi (ix2 j ⟨64 + l, by omega⟩) = cat1 kp kc j ⟨o + l, by omega⟩)
    (hvlo : ∀ j (l : Fin 128), vlo (ix2 j l) = if h : (l : ℕ) < 64 then cat1 vp vc j ⟨o + l, by omega⟩ else 0)
    (hvhi : ∀ j (l : Fin 128), vhi (ix2 j l) = if h : (l : ℕ) < 64 then 0 else cat1 vp vc j ⟨o + (l - 64), by omega⟩)
    : pairOut first k0_pay29 klo khi vlo vhi q b0 b1 s0 s1 (ix3 0 r e) = blkRes qb sk KP KC VP VC B n (ix3 0 r (qLane p e)) := by
  have hK : ∀ j (l : Fin 128) (L : Fin 256) (h : L.val = p.val / 4 * 128 + l), cat1 kp kc j l = cat KP KC j L := fun j l L h => by
    obtain ⟨L, hL⟩ := L
    change L = _ at h
    subst h
    unfold cat1 cat
    split_ifs
    · exact hkp _ _
    · exact hkc _ _
  have hV : ∀ j (l : Fin 128) (L : Fin 256) (h : L.val = p.val / 4 * 128 + l), cat1 vp vc j l = cat VP VC j L := fun j l L h => by
    obtain ⟨L, hL⟩ := L
    change L = _ at h
    subst h
    unfold cat1 cat
    split_ifs
    · exact hvp _ _
    · exact hvc _ _
  rw [pair_lane]
  by_cases h : (e : ℕ) < 64
  · have z : (fun j => (vhi (ix2 j e) : EReal)) = fun _ => 0 := funext fun j => (hvhi j e).trans (dif_pos h)
    rw [z, lane_zero, add_zero]
    refine Fin.sum_fin_congr fun j => congrArg₂ (· * ·) (congrFun (congrArg₂ soft (funext fun j => ?_) ?_) j) ?_
    · refine congrArg₂ (· + ·) (congrArg₂ (· + ·) ((lo_sum fun l => (q (ix3 0 r l) : EReal) * (klo (ix2 j l) : EReal)).trans
        (Fin.sum_fin_congr fun l => congrArg₂ (· * ·) ((hq _ _).trans (congrArg (fun k => qb (ix3 0 r k)) (Fin.ext ?_))) ((hklo _ _).trans (hK _ _ _ ?_))))
        ((hb0 _ _).trans (congrArg (fun k => B (ix3 k r j)) (Fin.ext ?_)))) (hf _ _)
      all_goals (simp only [ix3]; first | omega | (dsimp [qLane, kLane, head0, head1]; omega))
    · refine hs0.trans (congrArg (fun k => sk (ix1 k)) (Fin.ext ?_))
      dsimp [qLane, kLane, head0, head1]; omega
    · refine ((hvlo j e).trans (dif_pos h)).trans (hV _ _ _ ?_)
      dsimp [qLane, kLane, head0, head1]; omega
  · have z : (fun j => (vlo (ix2 j e) : EReal)) = fun _ => 0 := funext fun j => (hvlo j e).trans (dif_neg h)
    rw [z, lane_zero, zero_add]
    refine Fin.sum_fin_congr fun j => congrArg₂ (· * ·) (congrFun (congrArg₂ soft (funext fun j => ?_) ?_) j) ?_
    · refine congrArg₂ (· + ·) (congrArg₂ (· + ·) ((hi_sum fun l => (q (ix3 0 r l) : EReal) * (khi (ix2 j l) : EReal)).trans
        (Fin.sum_fin_congr fun l => congrArg₂ (· * ·) ((hq _ _).trans (congrArg (fun k => qb (ix3 0 r k)) (Fin.ext ?_))) ((hkhi _ _).trans (hK _ _ _ ?_))))
        ((hb1 _ _).trans (congrArg (fun k => B (ix3 k r j)) (Fin.ext ?_)))) (hf _ _)
      all_goals (dsimp [qLane, kLane, head0, head1]; omega)
    · refine hs1.trans (congrArg (fun k => sk (ix1 k)) (Fin.ext ?_))
      dsimp [qLane, kLane, head0, head1]; omega
    · refine ((hvhi j e).trans (dif_neg h)).trans (hV _ _ _ ?_)
      dsimp [qLane, kLane, head0, head1]; omega

theorem core_even (hp : p.val / 2 % 2 = 0) : pairOut first k0_pay29 (k0_pay30 kp kc) (k0_pay32 kp kc) (k0_pay34 vp vc)
    (k0_pay35 k0_pay29 (k0_pay33 vp vc)) q b0 b1 s0 s1 (ix3 0 r e) = blkRes qb sk KP KC VP VC B n (ix3 0 r (qLane p e)) := by
  refine core first q kp kc vp vc b0 b1 s0 s1 r e qb sk KP KC VP VC B n p hf hq hkp hkc hvp hvc hb0 hb1 hs0 hs1 _ _ _ _ ⟨0, by omega⟩ (by rw [hp]) ?_ ?_ ?_ ?_
  · exact fun j l => (pay30_at kp kc j _).trans (congrArg (cat1 kp kc j) (Fin.ext (by dsimp; omega)))
  · exact fun j l => (pay32_at kp kc j _).trans (congrArg (cat1 kp kc j) (Fin.ext (by dsimp; omega)))
  · intro j l
    rw [pay34_at]
    split_ifs
    · exact congrArg (cat1 vp vc j) (Fin.ext (by dsimp; omega))
    · rfl
  · intro j l
    rw [pay35_at]
    split_ifs
    · rfl
    · exact congrArg (cat1 vp vc j) (Fin.ext (by dsimp; omega))

theorem core_odd (hp : p.val / 2 % 2 = 1) : pairOut first k0_pay29 (k0_pay47 kp kc) (k0_pay45 kp kc) (k0_pay48 k0_pay29 vp vc)
    (k0_pay49 k0_pay29 vp vc) q b0 b1 s0 s1 (ix3 0 r e) = blkRes qb sk KP KC VP VC B n (ix3 0 r (qLane p e)) := by
  refine core first q kp kc vp vc b0 b1 s0 s1 r e qb sk KP KC VP VC B n p hf hq hkp hkc hvp hvc hb0 hb1 hs0 hs1 _ _ _ _ ⟨64, by omega⟩ (by rw [hp]) ?_ ?_ ?_ ?_
  · exact fun j l => (pay47_at kp kc j _).trans (congrArg (cat1 kp kc j) (Fin.ext (by dsimp; omega)))
  · exact fun j l => (pay45_at kp kc j _).trans (congrArg (cat1 kp kc j) (Fin.ext (by dsimp)))
  · intro j l
    rw [pay48_at]
    split_ifs
    · exact congrArg (cat1 vp vc j) (Fin.ext (by dsimp; omega))
    · rfl
  · intro j l
    rw [pay49_at]
    split_ifs
    · rfl
    · exact congrArg (cat1 vp vc j) (Fin.ext (by dsimp; omega))

theorem at_even (h1 : (y 1).val = (x 1).val) (h2 : (y 2).val = 128 * p.val + (x 2).val) (hp : p.val / 2 % 2 = 0) : pairOut first k0_pay29 (k0_pay30 kp kc) (k0_pay32 kp kc) (k0_pay34 vp vc)
    (k0_pay35 k0_pay29 (k0_pay33 vp vc)) q b0 b1 s0 s1 x = blkRes qb sk KP KC VP VC B n y := by
  have x2 : (x 2).val < 128 := (x 2).isLt
  have ex : x = ix3 0 (x 1) (x 2) := at_coords x _ _ rfl rfl
  have ey : y = ix3 0 (x 1) (qLane p (x 2)) := at_coords y _ _ h1 h2
  rw [ey]
  exact (congrArg (pairOut first k0_pay29 (k0_pay30 kp kc) (k0_pay32 kp kc) (k0_pay34 vp vc)
    (k0_pay35 k0_pay29 (k0_pay33 vp vc)) q b0 b1 s0 s1) ex).trans
    (core_even first q kp kc vp vc b0 b1 s0 s1 (x 1) (x 2) qb sk KP KC VP VC B n p hf hq hkp hkc hvp hvc hb0 hb1 hs0 hs1 hp)

theorem at_odd (h1 : (y 1).val = (x 1).val) (h2 : (y 2).val = 128 * p.val + (x 2).val) (hp : p.val / 2 % 2 = 1) : pairOut first k0_pay29 (k0_pay47 kp kc) (k0_pay45 kp kc) (k0_pay48 k0_pay29 vp vc)
    (k0_pay49 k0_pay29 vp vc) q b0 b1 s0 s1 x = blkRes qb sk KP KC VP VC B n y := by
  have x2 : (x 2).val < 128 := (x 2).isLt
  have ex : x = ix3 0 (x 1) (x 2) := at_coords x _ _ rfl rfl
  have ey : y = ix3 0 (x 1) (qLane p (x 2)) := at_coords y _ _ h1 h2
  rw [ey]
  exact (congrArg (pairOut first k0_pay29 (k0_pay47 kp kc) (k0_pay45 kp kc) (k0_pay48 k0_pay29 vp vc)
    (k0_pay49 k0_pay29 vp vc) q b0 b1 s0 s1) ex).trans
    (core_odd first q kp kc vp vc b0 b1 s0 s1 (x 1) (x 2) qb sk KP KC VP VC B n p hf hq hkp hkc hvp hvc hb0 hb1 hs0 hs1 hp)
end Pair

section Loads
variable {e : EltTy} {Val : EltTy → Type}

theorem ld_q (b : S1x128x1024.Idx → Val e) (o : ℕ) (inb : ∀ a, (![0, 0, o] : Fin 3 → ℕ) a + (![1, 128, 128] : Fin 3 → ℕ) a ≤ S1x128x1024.size a)
    (r l : Fin 128) (L : Fin 1024) (h : L.val = o + l.val) : View.ld b (Rect.unit ![0, 0, o] ![1, 128, 128] inb) (ix3 0 r l) = b (ix3 0 r L) :=
  View.ld_unit_apply_of b _ _ inb _ _ (by intro a; fin_cases a <;> simp [h])

theorem ld_k (b : S1x128x256.Idx → Val e) (o : ℕ) (inb : ∀ a, (![0, 0, o] : Fin 3 → ℕ) a + (![1, 128, 128] : Fin 3 → ℕ) a ≤ S1x128x256.size a)
    (r l : Fin 128) (L : Fin 256) (h : L.val = o + l.val) : View.ld b (Rect.unit ![0, 0, o] ![1, 128, 128] inb) (ix3 0 r l) = b (ix3 0 r L) :=
  View.ld_unit_apply_of b _ _ inb _ _ (by intro a; fin_cases a <;> simp [h])

theorem ld_bias (b : S16x128x256.Idx → Val e) (o : ℕ) (inb : ∀ a, (![o, 0, 0] : Fin 3 → ℕ) a + (![1, 128, 256] : Fin 3 → ℕ) a ≤ S16x128x256.size a)
    (r : Fin 128) (l : Fin 256) (L : Fin 16) (h : L.val = o) : View.ld b (Rect.unit ![o, 0, 0] ![1, 128, 256] inb) (ix3 0 r l) = b (ix3 L r l) :=
  View.ld_unit_apply_of b _ _ inb _ _ (by intro a; fin_cases a <;> simp [h])

theorem ld_sink (b : S16.Idx → Val e) (o : ℕ) (inb : ∀ a, (![o] : Fin 1 → ℕ) a + (![1] : Fin 1 → ℕ) a ≤ S16.size a)
    (i : S1.Idx) (L : Fin 16) (h : L.val = o) : View.ld b (Rect.unit ![o] ![1] inb) i = b (ix1 L) :=
  View.ld_unit_apply_of b _ _ inb _ _ (by intro a; fin_cases a; have := (i 0).isLt; change _ < 1 at this; simp [h])

theorem cov_bias [∀ e, Nonempty (Val e)] {sig : RefSig} {κ : Kind} {sp : Space} (v : View sig κ sp S16x128x256 e) (b : List (View.Piece Val S16x128x256 e)) (o : ℕ)
    (inb : ∀ a, (![o, 0, 0] : Fin 3 → ℕ) a + (![1, 128, 256] : Fin 3 → ℕ) a ≤ S16x128x256.size a)
    (r : Fin 128) (l : Fin 256) (L : Fin 16) (h : L.val = o) : (v.readCov b (Rect.unit (s := S16x128x256) ![o, 0, 0] ![1, 128, 256] inb).toLoadRect : S1x128x256.Idx → Val e) (ix3 0 r l) = View.canon b (ix3 L r l) :=
  (congrFun (View.readCov_eq_canon' v b _) _).trans (ld_bias (View.canon b) o inb r l L h)
end Loads
end Cert.SwaIdeal.Value
-- ==== Proof.SwaMask.lean ====
module

public import proofs.«01_k».proof.Proof.SwaPair
public import proofs.«01_k».proof.Proof.Gen.SwaRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The words of the reference's mask and distances, and its slopes. -/

namespace Cert.SwaRefIdeal.Read
open Cert.SwaRefIdeal

/-- The slope of head `h`, as the reference writes it. -/
def refSlope (h : Fin 16) : EReal :=
  Ideal.pow (Ideal.ofBits FTy.f32 1073741824#32)
    (Ideal.div (Ideal.ofBits FTy.f32 3238002688#32 * (1 + FloatOps.sitofp (F := Ideal) FTy.f32 (BitVec.ofNat 32 h)))
      (Ideal.ofBits FTy.f32 1098907648#32))

theorem vSlope (h : Fin 16) : val_main_v59 (F := Ideal) (ix1 h) = refSlope h := by
  pointwise [val_main_v51, val_main_cst, val_main_v52, val_main_v53, val_main_cst_7, val_main_v54, val_main_v55, val_main_cst_8, val_main_v56,
    val_main_v57, val_main_cst_9, val_main_v58, val_main_v59]
  rfl

/-- A query's position from a key's, in words. -/
def distWord (r : Fin 128) (j : Fin 256) : BitVec 32 :=
  IntOp.absi (IntOp.subi (IntOp.addi (BitVec.ofNat 32 r) 128#32) (BitVec.ofNat 32 j))

theorem dist_word (n : Fin 32) (r : Fin 128) (j : Fin 256) : IntOp.subi (BitVec.ofNat 32 (n.val * 128 + r))
    (IntOp.addi (IntOp.subi (BitVec.ofNat 32 (n.val * 128)) 128#32) (BitVec.ofNat 32 j)) = IntOp.subi (IntOp.addi (BitVec.ofNat 32 r) 128#32) (BitVec.ofNat 32 j) := by
  show BitVec.ofNat 32 (n.val * 128 + r) - (BitVec.ofNat 32 (n.val * 128) - 128#32 + BitVec.ofNat 32 j) = BitVec.ofNat 32 r + 128#32 - BitVec.ofNat 32 j
  bv_omega

theorem vDist (n : Fin 32) (r : Fin 128) (j : Fin 256) : val_main_v50 (F := Ideal) (ix3 n r j) = FloatOps.sitofp (F := Ideal) FTy.f32 (distWord r j) := by
  pointwise [val_main_v17, val_main_v18, val_main_v19, val_main_v20, val_main_v21, val_main_v22, val_main_v23, val_main_v24, val_main_v25, val_main_v26,
    val_main_v44, val_main_v45, val_main_v46, val_main_v47, val_main_v48, val_main_v49, val_main_v50, val_main_c_1]
  rw [dist_word]
  rfl

/-- A word over 64, rounded down, as the reference computes it. -/
def floor64 (a : BitVec 32) : BitVec 32 :=
  Scalar.select
    (IntOp.andi (IntOp.cmpi CmpIPredicate.ne (if a = 0 then 0 else if a.msb = true then -1 else 1)
        (if (64#32 : BitVec 32) = 0 then (0 : BitVec 32) else if (64#32 : BitVec 32).msb = true then -1 else 1))
      (IntOp.cmpi CmpIPredicate.ne (IntOp.remsi ArithUnit.host a 64#32) 0#32))
    (IntOp.subi (IntOp.divsi ArithUnit.host a 64#32) 1#32) (IntOp.divsi ArithUnit.host a 64#32)

theorem floor_q : ∀ n : Fin 32, ∀ r : Fin 128, floor64 (BitVec.ofNat 32 (n.val * 128 + r)) = BitVec.ofNat 32 (2 * n.val + r.val / 64) := by decide +kernel
theorem floor_k : ∀ n : Fin 32, ∀ j : Fin 256, floor64 (IntOp.addi (IntOp.subi (BitVec.ofNat 32 (n.val * 128)) 128#32) (BitVec.ofNat 32 j))
    = IntOp.subi (BitVec.ofNat 32 (2 * n.val + j.val / 64)) 2#32 := by decide +kernel
theorem key_pos : ∀ n : Fin 32, ∀ j : Fin 256, IntOp.cmpi CmpIPredicate.sge (IntOp.addi (IntOp.subi (BitVec.ofNat 32 (n.val * 128)) 128#32) (BitVec.ofNat 32 j)) 0#32
    = if n.val = 0 ∧ j.val < 128 then 0#1 else 1#1 := by decide +kernel
theorem chunk_ge : ∀ n : Fin 32, ∀ a : Fin 2, ∀ b : Fin 4, IntOp.cmpi CmpIPredicate.sge (IntOp.subi (BitVec.ofNat 32 (2 * n.val + a))
    (IntOp.subi (BitVec.ofNat 32 (2 * n.val + b)) 2#32)) 0#32 = if b.val ≤ a.val + 2 then 1#1 else 0#1 := by decide +kernel
theorem chunk_le : ∀ n : Fin 32, ∀ a : Fin 2, ∀ b : Fin 4, IntOp.cmpi CmpIPredicate.sle (IntOp.subi (BitVec.ofNat 32 (2 * n.val + a))
    (IntOp.subi (BitVec.ofNat 32 (2 * n.val + b)) 2#32)) 2#32 = if a.val ≤ b.val then 1#1 else 0#1 := by decide +kernel

/-- The chunks a query sees: its own and the two before it. -/
def near (r : Fin 128) (j : Fin 256) : Prop := j.val / 64 ≤ r.val / 64 + 2 ∧ r.val / 64 ≤ j.val / 64
instance (r : Fin 128) (j : Fin 256) : Decidable (near r j) := inferInstanceAs (Decidable (_ ∧ _))

theorem and_ite (p q : Prop) [Decidable p] [Decidable q] : IntOp.andi (if p then 1#1 else 0#1) (if q then 1#1 else 0#1) = if p ∧ q then 1#1 else 0#1 := by
  by_cases hp : p <;> by_cases hq : q <;> simp [hp, hq, IntOp.andi]

theorem vMask (n : Fin 32) (r : Fin 128) (j : Fin 256) : val_main_v43 (F := Ideal) (ix3 n r j) = if ¬(n.val = 0 ∧ j.val < 128) ∧ near r j then 1#1 else 0#1 := by
  pointwise [val_main_v17, val_main_v18, val_main_v19, val_main_c_1, val_main_v20, val_main_v21, val_main_v22, val_main_v23, val_main_v24, val_main_v25,
    val_main_v26, val_main_v27, val_main_c_2, val_main_call2_v0, val_main_call2_v1, val_main_call2_v2, val_main_call2_v3, val_main_call2_v4,
    val_main_call2_v5, val_main_call2_v6, val_main_call2_v7, val_main_call2_v8, val_main_call2_c, val_main_call2_v9, val_main_call2_v10,
    val_main_call2_v11, val_main_call2_c_0, val_main_call2_v12, val_main_call2_v13, val_main_v28, val_main_v29, val_main_c_3, val_main_call3_v0,
    val_main_call3_v1, val_main_call3_v2, val_main_call3_v3, val_main_call3_v4, val_main_call3_v5, val_main_call3_v6, val_main_call3_v7,
    val_main_call3_v8, val_main_call3_c, val_main_call3_v9, val_main_call3_v10, val_main_call3_v11, val_main_call3_c_0, val_main_call3_v12,
    val_main_call3_v13, val_main_v30, val_main_v31, val_main_v32, val_main_v33, val_main_v34, val_main_c_4, val_main_v35, val_main_v36,
    val_main_c_5, val_main_v37, val_main_v38, val_main_v39, val_main_v40, val_main_c_6, val_main_v41, val_main_v42, val_main_v43]
  change IntOp.andi (IntOp.andi (IntOp.cmpi CmpIPredicate.sge (IntOp.addi (IntOp.subi (BitVec.ofNat 32 (n.val * 128)) 128#32) (BitVec.ofNat 32 j)) 0#32)
    (IntOp.cmpi CmpIPredicate.sge (IntOp.subi (floor64 (BitVec.ofNat 32 (n.val * 128 + r)))
      (floor64 (IntOp.addi (IntOp.subi (BitVec.ofNat 32 (n.val * 128)) 128#32) (BitVec.ofNat 32 j)))) 0#32))
    (IntOp.cmpi CmpIPredicate.sle (IntOp.subi (floor64 (BitVec.ofNat 32 (n.val * 128 + r)))
      (floor64 (IntOp.addi (IntOp.subi (BitVec.ofNat 32 (n.val * 128)) 128#32) (BitVec.ofNat 32 j)))) 2#32) = _
  rw [floor_q, floor_k, key_pos, chunk_ge n ⟨r.val / 64, by omega⟩ ⟨j.val / 64, by omega⟩, chunk_le n ⟨r.val / 64, by omega⟩ ⟨j.val / 64, by omega⟩]
  have e : (if n.val = 0 ∧ j.val < 128 then 0#1 else 1#1) = if ¬(n.val = 0 ∧ j.val < 128) then 1#1 else 0#1 := by
    by_cases h : n.val = 0 ∧ j.val < 128
    · rw [if_pos h, if_neg (not_not.mpr h)]
    · rw [if_neg h, if_pos h]
  rw [e, and_ite, and_ite]
  exact if_congr (by unfold near; tauto) rfl rfl

theorem refSlope_eq (h : Fin 16) : refSlope h = (((2 : ℝ) ^ (-((h : ℕ) + 1 : ℝ) / 2 : ℝ) : ℝ) : EReal) := by
  have w : ∀ h : Fin 16, (BitVec.ofNat 32 h).toInt = ((h : ℕ) : ℤ) := by decide +kernel
  have e : (1 : EReal) + FloatOps.sitofp (F := Ideal) FTy.f32 (BitVec.ofNat 32 h) = ((((h : ℕ) + 1 : ℝ)) : EReal) := by
    show (1 : EReal) + (((BitVec.ofNat 32 h).toInt : ℝ) : EReal) = _
    rw [w h, add_comm]; push_cast; rfl
  have a : Ideal.ofBits FTy.f32 1073741824#32 = ((2 : ℝ) : EReal) := by simp [Ideal.ofBits, Ideal.ieee, -EReal.coe_mul]; norm_num
  have b : Ideal.ofBits FTy.f32 3238002688#32 = ((-8 : ℝ) : EReal) := by simp [Ideal.ofBits, Ideal.ieee, -EReal.coe_mul]; norm_num
  have c : Ideal.ofBits FTy.f32 1098907648#32 = ((16 : ℝ) : EReal) := by simp [Ideal.ofBits, Ideal.ieee, -EReal.coe_mul]; norm_num
  have q : Ideal.div (((-8 : ℝ) : EReal) * (((h : ℕ) + 1 : ℝ) : EReal)) ((16 : ℝ) : EReal) = ((-((h : ℕ) + 1 : ℝ) / 2 : ℝ) : EReal) := by
    rw [Ideal.div_coe (by norm_num), ← EReal.coe_mul, ← EReal.coe_mul]
    exact congrArg _ (by ring)
  unfold refSlope
  rw [e, a, b, c, q]
  rfl

theorem root_slope (h : Fin 16) (v : ℝ) (e : v = (2 : ℝ) ^ (h.val + 1)) : ((-((Real.sqrt v)⁻¹) : ℝ) : EReal) = -refSlope h := by
  rw [refSlope_eq, ← EReal.coe_neg, e, Real.sqrt_eq_rpow, ← Real.rpow_natCast, ← Real.rpow_mul (by norm_num), ← Real.rpow_neg (by norm_num)]
  congr 3
  push_cast
  ring

end Cert.SwaRefIdeal.Read

namespace Cert.SwaIdeal.Value
open Cert.SwaIdeal Cert.SwaIdeal.Gen Cert.SwaRefIdeal.Read

theorem slope0 : (Named.named κ "slope_2" 0xBF3504F3#32 : Ideal .f32) = -refSlope 0 :=
  ((IdealRules.named_const.ideal_named_scalar _ _ _ _ rfl : (Named.named κ "slope_2" 0xBF3504F3#32 : Ideal .f32) = ((-((Real.sqrt 2)⁻¹) : ℝ) : EReal)).trans
    (root_slope 0 2 (by norm_num)))
theorem slope1 : Ideal.ofBits FTy.f32 0xBF000000#32 = -refSlope 1 := by
  rw [refSlope_eq, show ((-(((1 : Fin 16) : ℕ) + 1 : ℝ) / 2) : ℝ) = -((1 : ℕ) : ℝ) by norm_num, Real.rpow_neg (by norm_num), Real.rpow_natCast]
  simp [Ideal.ofBits, Ideal.ieee, -EReal.coe_mul]; norm_num
theorem slope2 : (Named.named κ "slope_8" 0xBEB504F3#32 : Ideal .f32) = -refSlope 2 :=
  ((IdealRules.named_const.ideal_named_scalar _ _ _ _ rfl : (Named.named κ "slope_8" 0xBEB504F3#32 : Ideal .f32) = ((-((Real.sqrt 8)⁻¹) : ℝ) : EReal)).trans
    (root_slope 2 8 (by norm_num)))
theorem slope3 : Ideal.ofBits FTy.f32 0xBE800000#32 = -refSlope 3 := by
  rw [refSlope_eq, show ((-(((3 : Fin 16) : ℕ) + 1 : ℝ) / 2) : ℝ) = -((2 : ℕ) : ℝ) by norm_num, Real.rpow_neg (by norm_num), Real.rpow_natCast]
  simp [Ideal.ofBits, Ideal.ieee, -EReal.coe_mul]; norm_num
theorem slope4 : (Named.named κ "slope_32" 0xBE3504F3#32 : Ideal .f32) = -refSlope 4 :=
  ((IdealRules.named_const.ideal_named_scalar _ _ _ _ rfl : (Named.named κ "slope_32" 0xBE3504F3#32 : Ideal .f32) = ((-((Real.sqrt 32)⁻¹) : ℝ) : EReal)).trans
    (root_slope 4 32 (by norm_num)))
theorem slope5 : Ideal.ofBits FTy.f32 0xBE000000#32 = -refSlope 5 := by
  rw [refSlope_eq, show ((-(((5 : Fin 16) : ℕ) + 1 : ℝ) / 2) : ℝ) = -((3 : ℕ) : ℝ) by norm_num, Real.rpow_neg (by norm_num), Real.rpow_natCast]
  simp [Ideal.ofBits, Ideal.ieee, -EReal.coe_mul]; norm_num
theorem slope6 : (Named.named κ "slope_128" 0xBDB504F3#32 : Ideal .f32) = -refSlope 6 :=
  ((IdealRules.named_const.ideal_named_scalar _ _ _ _ rfl : (Named.named κ "slope_128" 0xBDB504F3#32 : Ideal .f32) = ((-((Real.sqrt 128)⁻¹) : ℝ) : EReal)).trans
    (root_slope 6 128 (by norm_num)))
theorem slope7 : Ideal.ofBits FTy.f32 0xBD800000#32 = -refSlope 7 := by
  rw [refSlope_eq, show ((-(((7 : Fin 16) : ℕ) + 1 : ℝ) / 2) : ℝ) = -((4 : ℕ) : ℝ) by norm_num, Real.rpow_neg (by norm_num), Real.rpow_natCast]
  simp [Ideal.ofBits, Ideal.ieee, -EReal.coe_mul]; norm_num
theorem slope8 : (Named.named κ "slope_512" 0xBD3504F3#32 : Ideal .f32) = -refSlope 8 :=
  ((IdealRules.named_const.ideal_named_scalar _ _ _ _ rfl : (Named.named κ "slope_512" 0xBD3504F3#32 : Ideal .f32) = ((-((Real.sqrt 512)⁻¹) : ℝ) : EReal)).trans
    (root_slope 8 512 (by norm_num)))
theorem slope9 : Ideal.ofBits FTy.f32 0xBD000000#32 = -refSlope 9 := by
  rw [refSlope_eq, show ((-(((9 : Fin 16) : ℕ) + 1 : ℝ) / 2) : ℝ) = -((5 : ℕ) : ℝ) by norm_num, Real.rpow_neg (by norm_num), Real.rpow_natCast]
  simp [Ideal.ofBits, Ideal.ieee, -EReal.coe_mul]; norm_num
theorem slope10 : (Named.named κ "slope_2048" 0xBCB504F3#32 : Ideal .f32) = -refSlope 10 :=
  ((IdealRules.named_const.ideal_named_scalar _ _ _ _ rfl : (Named.named κ "slope_2048" 0xBCB504F3#32 : Ideal .f32) = ((-((Real.sqrt 2048)⁻¹) : ℝ) : EReal)).trans
    (root_slope 10 2048 (by norm_num)))
theorem slope11 : Ideal.ofBits FTy.f32 0xBC800000#32 = -refSlope 11 := by
  rw [refSlope_eq, show ((-(((11 : Fin 16) : ℕ) + 1 : ℝ) / 2) : ℝ) = -((6 : ℕ) : ℝ) by norm_num, Real.rpow_neg (by norm_num), Real.rpow_natCast]
  simp [Ideal.ofBits, Ideal.ieee, -EReal.coe_mul]; norm_num
theorem slope12 : (Named.named κ "slope_8192" 0xBC3504F3#32 : Ideal .f32) = -refSlope 12 :=
  ((IdealRules.named_const.ideal_named_scalar _ _ _ _ rfl : (Named.named κ "slope_8192" 0xBC3504F3#32 : Ideal .f32) = ((-((Real.sqrt 8192)⁻¹) : ℝ) : EReal)).trans
    (root_slope 12 8192 (by norm_num)))
theorem slope13 : Ideal.ofBits FTy.f32 0xBC000000#32 = -refSlope 13 := by
  rw [refSlope_eq, show ((-(((13 : Fin 16) : ℕ) + 1 : ℝ) / 2) : ℝ) = -((7 : ℕ) : ℝ) by norm_num, Real.rpow_neg (by norm_num), Real.rpow_natCast]
  simp [Ideal.ofBits, Ideal.ieee, -EReal.coe_mul]; norm_num
theorem slope14 : (Named.named κ "slope_32768" 0xBBB504F3#32 : Ideal .f32) = -refSlope 14 :=
  ((IdealRules.named_const.ideal_named_scalar _ _ _ _ rfl : (Named.named κ "slope_32768" 0xBBB504F3#32 : Ideal .f32) = ((-((Real.sqrt 32768)⁻¹) : ℝ) : EReal)).trans
    (root_slope 14 32768 (by norm_num)))
theorem slope15 : Ideal.ofBits FTy.f32 0xBB800000#32 = -refSlope 15 := by
  rw [refSlope_eq, show ((-(((15 : Fin 16) : ℕ) + 1 : ℝ) / 2) : ℝ) = -((8 : ℕ) : ℝ) by norm_num, Real.rpow_neg (by norm_num), Real.rpow_natCast]
  simp [Ideal.ofBits, Ideal.ieee, -EReal.coe_mul]; norm_num

/-- A position over 64, rounded down, as the kernel computes it. -/
def floorV (a : BitVec 32) : BitVec 32 :=
  Scalar.select (IntOp.andi (IntOp.cmpi CmpIPredicate.ne (IntOp.subi (BitVec.setWidth 32 (IntOp.cmpi CmpIPredicate.sgt a 0#32)) (BitVec.setWidth 32 (IntOp.cmpi CmpIPredicate.slt a 0#32))) 1#32)
      (IntOp.cmpi CmpIPredicate.ne (IntOp.remsi ArithUnit.vector a 64#32) 0#32))
    (IntOp.subi (IntOp.divsi ArithUnit.vector a 64#32) 1#32) (IntOp.divsi ArithUnit.vector a 64#32)

theorem floorV_at : ∀ j : Fin 256, floorV (BitVec.ofNat 32 j) = BitVec.ofNat 32 (j.val / 64) := by decide +kernel

theorem near_word : ∀ a : Fin 2, ∀ b : Fin 4, IntOp.andi (IntOp.cmpi CmpIPredicate.sge (IntOp.subi (IntOp.addi (BitVec.ofNat 32 a) 2#32) (BitVec.ofNat 32 b)) 0#32)
    (IntOp.cmpi CmpIPredicate.sle (IntOp.subi (IntOp.addi (BitVec.ofNat 32 a) 2#32) (BitVec.ofNat 32 b)) 2#32) = if b.val ≤ a.val + 2 ∧ a.val ≤ b.val then 1#1 else 0#1 := by decide +kernel

/-- The bias of head `h` between query `r` and key `j`. -/
def biasAt (h : Fin 16) (r : Fin 128) (j : Fin 256) : EReal :=
  if near r j then -refSlope h * FloatOps.sitofp (F := Ideal) FTy.f32 (distWord r j) else ⊥

/-- The bias of every head. -/
def biasB (y : S16x128x256.Idx) : EReal := biasAt (y 0) (y 1) (y 2)

theorem bias_piece (k : Fin 16) (x : S1x128x256.Idx) (y : S16x128x256.Idx) (s : EReal) (hs : s = -refSlope k) (h0 : (y 0).val = k.val + (x 0).val) (h1 : (y 1).val = (x 1).val) (h2 : (y 2).val = (x 2).val) :
    Scalar.select (IntOp.andi
        (IntOp.cmpi CmpIPredicate.sge (IntOp.subi (IntOp.addi (floorV (BitVec.ofNat 32 (x 1).val)) 2#32) (floorV (BitVec.ofNat 32 (x 2).val))) 0#32)
        (IntOp.cmpi CmpIPredicate.sle (IntOp.subi (IntOp.addi (floorV (BitVec.ofNat 32 (x 1).val)) 2#32) (floorV (BitVec.ofNat 32 (x 2).val))) 2#32))
      (s * FloatOps.sitofp (F := Ideal) FTy.f32 (IntOp.absi (IntOp.subi (IntOp.addi (BitVec.ofNat 32 (x 1).val) 128#32) (BitVec.ofNat 32 (x 2).val))))
      (Ideal.ofBits FTy.f32 4286578688#32) = biasB y := by
  have x1 : (x 1).val < 128 := (x 1).isLt
  have x2 : (x 2).val < 256 := (x 2).isLt
  have x0 : (x 0).val < 1 := (x 0).isLt
  have e0 : (y 0 : Fin 16) = k := Fin.ext (by omega)
  have e1 : (y 1 : Fin 128) = x 1 := Fin.ext h1
  have e2 : (y 2 : Fin 256) = x 2 := Fin.ext h2
  rw [floorV_at ⟨(x 1).val, by omega⟩, floorV_at ⟨(x 2).val, x2⟩, near_word ⟨(x 1).val / 64, by omega⟩ ⟨(x 2).val / 64, by omega⟩, hs, negInf]
  have g : biasB y = biasAt k (x 1) (x 2) := by
    show biasAt (y 0) (y 1) (y 2) = _
    rw [e0, e1, e2]
  rw [g]
  by_cases h : near (x 1) (x 2)
  · rw [show biasAt k (x 1) (x 2) = _ from if_pos h]
    have h' : (x 2).val / 64 ≤ (x 1).val / 64 + 2 ∧ (x 1).val / 64 ≤ (x 2).val / 64 := h
    simp only [h', and_self, if_true]
    rfl
  · rw [show biasAt k (x 1) (x 2) = _ from if_neg h]
    have h' : ¬((x 2).val / 64 ≤ (x 1).val / 64 + 2 ∧ (x 1).val / 64 ≤ (x 2).val / 64) := h
    simp only [h', if_false]
    rfl
end Cert.SwaIdeal.Value
-- ==== Proof.SwaPoint.lean ====
module

public import proofs.«01_k».proof.Proof.SwaPair
public import proofs.«01_k».proof.Proof.SwaMask
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The kernel's values at a point: the bias it keeps and the block it writes. -/

namespace Cert.SwaIdeal.Value
open Cert.SwaIdeal Cert.SwaIdeal.Gen
variable (m : (ℓ : Loc nD τ sig) → Buf (Elt Ideal) ℓ)

/-- A point that begins a core's work writes the bias. -/
theorem bias_first (c : Dev nD) (t : Fin cfg0.N) (h0 : t.val % 256 = 0) : (outsAt0 m c t.val t.isLt).2 = biasB := by
  funext y
  rw [outsAt0_A m c t h0]; frame_out
  canon_tiles x h
  case piece15 => open_payloads; pointwise; exact bias_piece 0 x y _ slope0 (h0.trans (Nat.zero_add _).symm) h1 h2
  case piece14 => open_payloads; pointwise; exact bias_piece 1 x y _ slope1 h0 h1 h2
  case piece13 => open_payloads; pointwise; exact bias_piece 2 x y _ slope2 h0 h1 h2
  case piece12 => open_payloads; pointwise; exact bias_piece 3 x y _ slope3 h0 h1 h2
  case piece11 => open_payloads; pointwise; exact bias_piece 4 x y _ slope4 h0 h1 h2
  case piece10 => open_payloads; pointwise; exact bias_piece 5 x y _ slope5 h0 h1 h2
  case piece9 => open_payloads; pointwise; exact bias_piece 6 x y _ slope6 h0 h1 h2
  case piece8 => open_payloads; pointwise; exact bias_piece 7 x y _ slope7 h0 h1 h2
  case piece7 => open_payloads; pointwise; exact bias_piece 8 x y _ slope8 h0 h1 h2
  case piece6 => open_payloads; pointwise; exact bias_piece 9 x y _ slope9 h0 h1 h2
  case piece5 => open_payloads; pointwise; exact bias_piece 10 x y _ slope10 h0 h1 h2
  case piece4 => open_payloads; pointwise; exact bias_piece 11 x y _ slope11 h0 h1 h2
  case piece3 => open_payloads; pointwise; exact bias_piece 12 x y _ slope12 h0 h1 h2
  case piece2 => open_payloads; pointwise; exact bias_piece 13 x y _ slope13 h0 h1 h2
  case piece1 => open_payloads; pointwise; exact bias_piece 14 x y _ slope14 h0 h1 h2
  case piece0 => open_payloads; pointwise; exact bias_piece 15 x y _ slope15 h0 h1 h2

/-- Every point has the bias. -/
theorem bias_kept (c : Dev nD) (n : ℕ) (hn : n < cfg0.N) : (outsAt0 m c n hn).2 = biasB := by
  induction n with
  | zero => exact bias_first m c ⟨0, hn⟩ (Nat.zero_mod _)
  | succ n ih =>
    by_cases h0 : (n + 1) % 256 = 0
    · exact bias_first m c ⟨n + 1, hn⟩ h0
    · exact (congrArg Prod.snd (outsAt0_B m c ⟨n + 1, hn⟩ h0)).trans (ih (by omega))

theorem out_first (c : Dev nD) (t : Fin cfg0.N) (h0 : t.val % 256 = 0) (y : S1x128x1024.Idx) : (outsAt0 m c t.val t.isLt).1 y
    = blkRes (iblk m c 1 t) (iblk m c 0 t) (iblk m c 2 t) (iblk m c 3 t) (iblk m c 4 t) (iblk m c 5 t) (outsAt0 m c t.val t.isLt).2 (t.val % 32) y := by
  rw [outsAt0_A m c t h0]; frame_out
  canon_tiles x h
  case piece7 =>
    exact at_even x y _ (View.ld (iblk m c 1 t) (Rect.unit ![0, 0, 0] ![1, 128, 128] inb_S1x128x1024_S1x128x128_0_0_0)) _ _ _ _ _ _ (View.ld (iblk m c 0 t) (Rect.unit ![0] ![1] inb_S16_S1_0) (Shape.Idx.first _)) (View.ld (iblk m c 0 t) (Rect.unit ![1] ![1] inb_S16_S1_1) (Shape.Idx.first _)) _ _ _ _ _ _ _ _ 0 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 (h2.trans (Nat.zero_add _).symm) rfl
  case piece6 =>
    exact at_even x y _ (View.ld (iblk m c 1 t) (Rect.unit ![0, 0, 128] ![1, 128, 128] inb_S1x128x1024_S1x128x128_0_0_128)) _ _ _ _ _ _ (View.ld (iblk m c 0 t) (Rect.unit ![2] ![1] inb_S16_S1_2) (Shape.Idx.first _)) (View.ld (iblk m c 0 t) (Rect.unit ![3] ![1] inb_S16_S1_3) (Shape.Idx.first _)) _ _ _ _ _ _ _ _ 1 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl
  case piece5 =>
    exact at_odd x y _ (View.ld (iblk m c 1 t) (Rect.unit ![0, 0, 256] ![1, 128, 128] inb_S1x128x1024_S1x128x128_0_0_256)) _ _ _ _ _ _ (View.ld (iblk m c 0 t) (Rect.unit ![4] ![1] inb_S16_S1_4) (Shape.Idx.first _)) (View.ld (iblk m c 0 t) (Rect.unit ![5] ![1] inb_S16_S1_5) (Shape.Idx.first _)) _ _ _ _ _ _ _ _ 2 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl
  case piece4 =>
    exact at_odd x y _ (View.ld (iblk m c 1 t) (Rect.unit ![0, 0, 384] ![1, 128, 128] inb_S1x128x1024_S1x128x128_0_0_384)) _ _ _ _ _ _ (View.ld (iblk m c 0 t) (Rect.unit ![6] ![1] inb_S16_S1_6) (Shape.Idx.first _)) (View.ld (iblk m c 0 t) (Rect.unit ![7] ![1] inb_S16_S1_7) (Shape.Idx.first _)) _ _ _ _ _ _ _ _ 3 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl
  case piece3 =>
    exact at_even x y _ (View.ld (iblk m c 1 t) (Rect.unit ![0, 0, 512] ![1, 128, 128] inb_S1x128x1024_S1x128x128_0_0_512)) _ _ _ _ _ _ (View.ld (iblk m c 0 t) (Rect.unit ![8] ![1] inb_S16_S1_8) (Shape.Idx.first _)) (View.ld (iblk m c 0 t) (Rect.unit ![9] ![1] inb_S16_S1_9) (Shape.Idx.first _)) _ _ _ _ _ _ _ _ 4 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl
  case piece2 =>
    exact at_even x y _ (View.ld (iblk m c 1 t) (Rect.unit ![0, 0, 640] ![1, 128, 128] inb_S1x128x1024_S1x128x128_0_0_640)) _ _ _ _ _ _ (View.ld (iblk m c 0 t) (Rect.unit ![10] ![1] inb_S16_S1_10) (Shape.Idx.first _)) (View.ld (iblk m c 0 t) (Rect.unit ![11] ![1] inb_S16_S1_11) (Shape.Idx.first _)) _ _ _ _ _ _ _ _ 5 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl
  case piece1 =>
    exact at_odd x y _ (View.ld (iblk m c 1 t) (Rect.unit ![0, 0, 768] ![1, 128, 128] inb_S1x128x1024_S1x128x128_0_0_768)) _ _ _ _ _ _ (View.ld (iblk m c 0 t) (Rect.unit ![12] ![1] inb_S16_S1_12) (Shape.Idx.first _)) (View.ld (iblk m c 0 t) (Rect.unit ![13] ![1] inb_S16_S1_13) (Shape.Idx.first _)) _ _ _ _ _ _ _ _ 6 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl
  case piece0 =>
    exact at_odd x y _ (View.ld (iblk m c 1 t) (Rect.unit ![0, 0, 896] ![1, 128, 128] inb_S1x128x1024_S1x128x128_0_0_896)) _ _ _ _ _ _ (View.ld (iblk m c 0 t) (Rect.unit ![14] ![1] inb_S16_S1_14) (Shape.Idx.first _)) (View.ld (iblk m c 0 t) (Rect.unit ![15] ![1] inb_S16_S1_15) (Shape.Idx.first _)) _ _ _ _ _ _ _ _ 7 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => cov_bias _ _ _ _ _ _ _ rfl) (fun r j => cov_bias _ _ _ _ _ _ _ rfl) (ld_sink _ _ _ _ _ rfl) (ld_sink _ _ _ _ _ rfl) h1 h2 rfl

theorem out_later (c : Dev nD) (t : Fin cfg0.N) (h0 : ¬t.val % 256 = 0) (y : S1x128x1024.Idx) : (outsAt0 m c t.val t.isLt).1 y
    = blkRes (iblk m c 1 t) (iblk m c 0 t) (iblk m c 2 t) (iblk m c 3 t) (iblk m c 4 t) (iblk m c 5 t) (outsAt0 m c (t.val - 1) (by omega)).2 (t.val % 32) y := by
  rw [outsAt0_B m c t h0]; frame_out
  rw [read_unread_whole]
  canon_tiles x h
  case piece7 =>
    exact at_even x y _ (View.ld (iblk m c 1 t) (Rect.unit ![0, 0, 0] ![1, 128, 128] inb_S1x128x1024_S1x128x128_0_0_0)) _ _ _ _ _ _ (View.ld (iblk m c 0 t) (Rect.unit ![0] ![1] inb_S16_S1_0) (Shape.Idx.first _)) (View.ld (iblk m c 0 t) (Rect.unit ![1] ![1] inb_S16_S1_1) (Shape.Idx.first _)) _ _ _ _ _ _ _ _ 0 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 (h2.trans (Nat.zero_add _).symm) rfl
  case piece6 =>
    exact at_even x y _ (View.ld (iblk m c 1 t) (Rect.unit ![0, 0, 128] ![1, 128, 128] inb_S1x128x1024_S1x128x128_0_0_128)) _ _ _ _ _ _ (View.ld (iblk m c 0 t) (Rect.unit ![2] ![1] inb_S16_S1_2) (Shape.Idx.first _)) (View.ld (iblk m c 0 t) (Rect.unit ![3] ![1] inb_S16_S1_3) (Shape.Idx.first _)) _ _ _ _ _ _ _ _ 1 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl
  case piece5 =>
    exact at_odd x y _ (View.ld (iblk m c 1 t) (Rect.unit ![0, 0, 256] ![1, 128, 128] inb_S1x128x1024_S1x128x128_0_0_256)) _ _ _ _ _ _ (View.ld (iblk m c 0 t) (Rect.unit ![4] ![1] inb_S16_S1_4) (Shape.Idx.first _)) (View.ld (iblk m c 0 t) (Rect.unit ![5] ![1] inb_S16_S1_5) (Shape.Idx.first _)) _ _ _ _ _ _ _ _ 2 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl
  case piece4 =>
    exact at_odd x y _ (View.ld (iblk m c 1 t) (Rect.unit ![0, 0, 384] ![1, 128, 128] inb_S1x128x1024_S1x128x128_0_0_384)) _ _ _ _ _ _ (View.ld (iblk m c 0 t) (Rect.unit ![6] ![1] inb_S16_S1_6) (Shape.Idx.first _)) (View.ld (iblk m c 0 t) (Rect.unit ![7] ![1] inb_S16_S1_7) (Shape.Idx.first _)) _ _ _ _ _ _ _ _ 3 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl
  case piece3 =>
    exact at_even x y _ (View.ld (iblk m c 1 t) (Rect.unit ![0, 0, 512] ![1, 128, 128] inb_S1x128x1024_S1x128x128_0_0_512)) _ _ _ _ _ _ (View.ld (iblk m c 0 t) (Rect.unit ![8] ![1] inb_S16_S1_8) (Shape.Idx.first _)) (View.ld (iblk m c 0 t) (Rect.unit ![9] ![1] inb_S16_S1_9) (Shape.Idx.first _)) _ _ _ _ _ _ _ _ 4 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl
  case piece2 =>
    exact at_even x y _ (View.ld (iblk m c 1 t) (Rect.unit ![0, 0, 640] ![1, 128, 128] inb_S1x128x1024_S1x128x128_0_0_640)) _ _ _ _ _ _ (View.ld (iblk m c 0 t) (Rect.unit ![10] ![1] inb_S16_S1_10) (Shape.Idx.first _)) (View.ld (iblk m c 0 t) (Rect.unit ![11] ![1] inb_S16_S1_11) (Shape.Idx.first _)) _ _ _ _ _ _ _ _ 5 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl
  case piece1 =>
    exact at_odd x y _ (View.ld (iblk m c 1 t) (Rect.unit ![0, 0, 768] ![1, 128, 128] inb_S1x128x1024_S1x128x128_0_0_768)) _ _ _ _ _ _ (View.ld (iblk m c 0 t) (Rect.unit ![12] ![1] inb_S16_S1_12) (Shape.Idx.first _)) (View.ld (iblk m c 0 t) (Rect.unit ![13] ![1] inb_S16_S1_13) (Shape.Idx.first _)) _ _ _ _ _ _ _ _ 6 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl
  case piece0 =>
    exact at_odd x y _ (View.ld (iblk m c 1 t) (Rect.unit ![0, 0, 896] ![1, 128, 128] inb_S1x128x1024_S1x128x128_0_0_896)) _ _ _ _ _ _ (View.ld (iblk m c 0 t) (Rect.unit ![14] ![1] inb_S16_S1_14) (Shape.Idx.first _)) (View.ld (iblk m c 0 t) (Rect.unit ![15] ![1] inb_S16_S1_15) (Shape.Idx.first _)) _ _ _ _ _ _ _ _ 7 (first_at t) (fun r l => ld_q _ _ _ _ _ _ rfl)
      (fun j l => ld_k _ _ _ _ _ _ rfl) (fun j l => ld_k _ _ _ _ _ _ rfl) (fun j l => ld_k _ _ _ _ _ _ rfl) (fun j l => ld_k _ _ _ _ _ _ rfl)
      (fun r j => ld_bias _ _ _ _ _ _ rfl) (fun r j => ld_bias _ _ _ _ _ _ rfl) (ld_sink _ _ _ _ _ rfl) (ld_sink _ _ _ _ _ rfl) h1 h2 rfl

/-- What every point writes. -/
theorem out_at (c : Dev nD) (t : Fin cfg0.N) (y : S1x128x1024.Idx) : (outsAt0 m c t.val t.isLt).1 y = blkRes (iblk m c 1 t) (iblk m c 0 t) (iblk m c 2 t) (iblk m c 3 t) (iblk m c 4 t) (iblk m c 5 t) biasB (t.val % 32) y := by
  by_cases h0 : t.val % 256 = 0
  · rw [out_first m c t h0, bias_kept]
  · rw [out_later m c t h0, bias_kept]
end Cert.SwaIdeal.Value
-- ==== Proof.SwaRef.lean ====
module

public import proofs.«01_k».proof.Proof.SwaPair
public import proofs.«01_k».proof.Proof.SwaMask
public import proofs.«01_k».proof.Proof.Gen.SwaRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaRefIdeal.Read
open Cert.SwaRefIdeal Cert.SwaRefIdeal.Gen Cert.SwaIdeal.Value
variable (x0 : FVec Ideal S8x4096x4096 .bf16) (x1 : FVec Ideal S1x16 .f32)

/-- A row's largest score is a fold over the window's keys. -/
theorem vMax (b : Fin 8) (g h : Fin 4) (n : Fin 32) (r : Fin 128) :
    val_main_v70 (F := Ideal) x0 (ix5 b g h n r)
      = Finset.fold max (Ideal.ofBits FTy.f32 4286578688#32) (fun j : Fin 256 => (val_main_v67 (F := Ideal) x0 (ix6 b g h n r j) : EReal)) Finset.univ := by
  unfold val_main_v70
  generalize val_main_v67 (F := Ideal) x0 = z
  have hr : S8x4x4x32x128x256.Reduces [5] S8x4x4x32x128 := by decide
  have e := Host.reduce_eq_fold_single (FloatOps.maximumf (F := Ideal) (φ := .f32)) z (val_main_cst_11 (F := Ideal)) reducesTo_S8x4x4x32x128x256_S8x4x4x32x128_d5 hr h_S_ (ix5 b g h n r)
  refine e.trans ?_
  exact congrArg (fun f => Finset.fold max (Ideal.ofBits FTy.f32 4286578688#32) f Finset.univ)
    (funext fun k => congrArg z (funext fun a => Fin.ext (by match a with | ⟨0, _⟩ => rfl | ⟨1, _⟩ => rfl | ⟨2, _⟩ => rfl | ⟨3, _⟩ => rfl | ⟨4, _⟩ => rfl | ⟨5, _⟩ => rfl)))

/-- The sinks' row, laid over the groups and the heads in them. -/
theorem vSink (b : Fin 8) (g h : Fin 4) (n : Fin 32) (r : Fin 128) (k : Fin 16) (hk : k.val = g * 4 + h) :
    val_main_v71 (F := Ideal) x1 (ix5 b g h n r) = x1 (ix2 0 k) := by
  have hlt : g.val * 4 + h.val < 16 := by clear hk; omega
  obtain rfl : k = ⟨g * 4 + h, hlt⟩ := Fin.ext hk
  pointwise [val_main_v71, val_main_v69, val_main_v68]

/-- The shift of a row: its largest score, or the head's sink if that is larger. -/
theorem vShift (b : Fin 8) (g h : Fin 4) (n : Fin 32) (r : Fin 128) (k : Fin 16) (hk : k.val = g * 4 + h) :
    val_main_v72 (F := Ideal) x0 x1 (ix5 b g h n r)
      = max (val_main_v70 (F := Ideal) x0 (ix5 b g h n r) : EReal) (x1 (ix2 0 k)) := by
  rw [val_main_v72_apply, vSink x1 b g h n r k hk]
  generalize val_main_v70 (F := Ideal) x0 = z
  rfl

theorem vExp (b : Fin 8) (g h : Fin 4) (n : Fin 32) (r : Fin 128) (j : Fin 256) :
    val_main_v76 (F := Ideal) x0 x1 (ix6 b g h n r j)
      = Ideal.exp ((val_main_v67 (F := Ideal) x0 (ix6 b g h n r j) : EReal) - val_main_v72 (F := Ideal) x0 x1 (ix5 b g h n r)) := by
  pointwise [val_main_v76, val_main_v75, val_main_v74, val_main_v73]

theorem vSum (b : Fin 8) (g h : Fin 4) (n : Fin 32) (r : Fin 128) :
    val_main_v77 (F := Ideal) x0 x1 (ix5 b g h n r)
      = ∑ j : Fin 256, (val_main_v76 (F := Ideal) x0 x1 (ix6 b g h n r j) : EReal) := by
  refine (val_main_v77_apply x0 x1 (ix5 b g h n r)).trans ?_
  have hz : ((val_main_cst_12 (F := Ideal)) (Shape.Idx.first h_S_) : EReal) = 0 := Ideal.ofBits_zero_f32
  refine (congrArg₂ (· + ·) hz (Finset.sum_congr rfl fun k _ => congrArg _ ?_)).trans (zero_add _)
  exact funext fun a => Fin.ext (by match a with | ⟨0, _⟩ => rfl | ⟨1, _⟩ => rfl | ⟨2, _⟩ => rfl | ⟨3, _⟩ => rfl | ⟨4, _⟩ => rfl | ⟨5, _⟩ => rfl)

theorem vDen (b : Fin 8) (g h : Fin 4) (n : Fin 32) (r : Fin 128) (j : Fin 256) (k : Fin 16) (hk : k.val = g * 4 + h) :
    val_main_v84 (F := Ideal) x0 x1 (ix6 b g h n r j)
      = (val_main_v77 (F := Ideal) x0 x1 (ix5 b g h n r) : EReal) + Ideal.exp ((x1 (ix2 0 k) : EReal) - val_main_v72 (F := Ideal) x0 x1 (ix5 b g h n r)) := by
  have hlt : g.val * 4 + h.val < 16 := by clear hk; omega
  obtain rfl : k = ⟨g * 4 + h, hlt⟩ := Fin.ext hk
  pointwise [val_main_v84, val_main_v83, val_main_v82, val_main_v81, val_main_v80, val_main_v79, val_main_v78, val_main_v69, val_main_v68]

/-- The weight of a key is the shifted exponential over the sum that also holds the head's sink. -/
theorem vSoft (b : Fin 8) (g h : Fin 4) (n : Fin 32) (r : Fin 128) (j : Fin 256) (k : Fin 16) (hk : k.val = g * 4 + h) :
    val_main_v85 (F := Ideal) x0 x1 (ix6 b g h n r j)
      = soft (fun j => val_main_v67 (F := Ideal) x0 (ix6 b g h n r j)) (x1 (ix2 0 k)) j := by
  have hs := (vShift x0 x1 b g h n r k hk).trans (congrArg (max · (x1 (ix2 0 k) : EReal)) (vMax x0 b g h n r))
  have hd := vDen x0 x1 b g h n r j k hk
  rw [vSum, hs] at hd
  have he : ∀ j, _ = _ := fun j => vExp x0 x1 b g h n r j
  simp only [hs] at he
  simp only [he] at hd
  rw [val_main_v85_apply, hd, he]
  generalize val_main_v67 (F := Ideal) x0 = z
  rfl

/-- The key (or value) lanes of the window: the previous block of rows, which before the first block is zero, then the row's own block. -/
def window (off : ℕ) (x : FVec Ideal S8x4096x4096 .bf16) (b : Fin 8) (n : Fin 32) (j : Fin 256) (e : Fin 256) (ho : off + 256 ≤ 4096) : EReal :=
  if h : j.val < 128 then (if n.val = 0 then 0 else x (ix3 b ⟨(n.val - 1) * 128 + j, by omega⟩ ⟨off + e, by omega⟩))
  else x (ix3 b ⟨n.val * 128 + (j.val - 128), by omega⟩ ⟨off + e, by omega⟩)

theorem sitofp_zero : (FloatOps.sitofp (F := Ideal) FTy.bf16 0#32 : EReal) = 0 := by
  show ((((0#32 : BitVec 32).toInt : ℝ)) : EReal) = 0
  simp

theorem vKey (b : Fin 8) (n : Fin 32) (j : Fin 256) (g : Fin 4) (d : Fin 64) (e : Fin 256) (he : e.val = g * 64 + d) :
    val_main_v10 (F := Ideal) x0 (ix5 b n j g d) = window 3584 x0 b n j e (by decide) := by
  have hlt : g.val * 64 + d.val < 256 := by clear he; omega
  obtain rfl : e = ⟨g * 64 + d, hlt⟩ := Fin.ext he
  unfold window
  pointwise [val_main_v0, val_main_v1, val_main_v2, val_main_v3, val_main_v4, val_main_v5, val_main_v6, val_main_v7, val_main_v8, val_main_c, val_main_call0_v0, val_main_v9, val_main_v10]
  by_cases hj : j.val < 128
  · by_cases hn : n.val = 0
    · simp only [hj, hn, dif_pos, if_true, Nat.not_lt_zero, Nat.one_le_iff_ne_zero, ne_eq, not_true_eq_false, false_and, dif_neg, not_false_eq_true]
      exact sitofp_zero
    · have h1 : (1 ≤ n.val ∧ n.val - 1 < 31) ∧ j.val < 128 := ⟨⟨by omega, by omega⟩, hj⟩
      simp only [hj, hn, h1, dif_pos, if_false, and_self]
  · simp only [hj, dif_neg, not_false_eq_true]

theorem vValue (b : Fin 8) (n : Fin 32) (j : Fin 256) (g : Fin 4) (d : Fin 64) (e : Fin 256) (he : e.val = g * 64 + d) :
    val_main_v14 (F := Ideal) x0 (ix5 b n j g d) = window 3840 x0 b n j e (by decide) := by
  have hlt : g.val * 64 + d.val < 256 := by clear he; omega
  obtain rfl : e = ⟨g * 64 + d, hlt⟩ := Fin.ext he
  unfold window
  pointwise [val_main_v0, val_main_v1, val_main_v2, val_main_v3, val_main_v4, val_main_v5, val_main_v6, val_main_v11, val_main_v12, val_main_c_0, val_main_call1_v0, val_main_v13, val_main_v14]
  by_cases hj : j.val < 128
  · by_cases hn : n.val = 0
    · simp only [hj, hn, dif_pos, if_true, Nat.not_lt_zero, Nat.one_le_iff_ne_zero, ne_eq, not_true_eq_false, false_and, dif_neg, not_false_eq_true]
      exact sitofp_zero
    · have h1 : (1 ≤ n.val ∧ n.val - 1 < 31) ∧ j.val < 128 := ⟨⟨by omega, by omega⟩, hj⟩
      simp only [hj, hn, h1, dif_pos, if_false, and_self]
  · simp only [hj, dif_neg, not_false_eq_true]

theorem vDot (b : Fin 8) (g h : Fin 4) (n : Fin 32) (r : Fin 128) (j : Fin 256) :
    val_main_v16 (F := Ideal) x0 (ix6 b g h n r j)
      = ∑ d : Fin 64, (val_main_v10 (F := Ideal) x0 (ix5 b n j g d) : EReal) * x0 (ix3 b ⟨n * 128 + r, by omega⟩ ⟨2048 + (g * 256 + h * 64 + d), by omega⟩) := by
  pointwise [val_main_v16, val_main_v15, val_main_v0, val_main_v1, val_main_v2]

theorem vScore (b : Fin 8) (g h : Fin 4) (n : Fin 32) (r : Fin 128) (j : Fin 256) (k : Fin 16) (hk : k.val = g * 4 + h) :
    val_main_v67 (F := Ideal) x0 (ix6 b g h n r j)
      = if ¬(n.val = 0 ∧ j.val < 128) ∧ near r j then
          (val_main_v16 (F := Ideal) x0 (ix6 b g h n r j) : EReal) - refSlope k * FloatOps.sitofp (F := Ideal) FTy.f32 (distWord r j) else ⊥ := by
  have hlt : g.val * 4 + h.val < 16 := by clear hk; omega
  obtain rfl : k = ⟨g * 4 + h, hlt⟩ := Fin.ext hk
  have e : val_main_v67 (F := Ideal) x0 (ix6 b g h n r j)
      = if val_main_v43 (F := Ideal) (ix3 n r j) = 1#1 then (val_main_v16 (F := Ideal) x0 (ix6 b g h n r j) : EReal)
          - val_main_v59 (F := Ideal) (ix1 ⟨g * 4 + h, hlt⟩) * val_main_v50 (F := Ideal) (ix3 n r j) else Ideal.ofBits FTy.f32 4286578688#32 := by
    pointwise [val_main_v60, val_main_v61, val_main_v62, val_main_v63, val_main_v64, val_main_v65, val_main_v66, val_main_call4_v0, val_main_call4_v1, val_main_call4_v2, val_main_cst_10, val_main_v67]
    exact if_congr Iff.rfl rfl rfl
  rw [e, vMask, vSlope, vDist, negInf]
  split <;> simp_all
theorem vOut (b : Fin 8) (t : Fin 4096) (l : Fin 1024) :
    val_main_v89 (F := Ideal) x0 x1 (ix3 b t l)
      = ∑ j : Fin 256, (val_main_v14 (F := Ideal) x0 (ix5 b ⟨t / 128, by omega⟩ j ⟨l / 256, by omega⟩ ⟨l % 64, by omega⟩) : EReal)
          * val_main_v85 (F := Ideal) x0 x1 (ix6 b ⟨l / 256, by omega⟩ ⟨l / 64 % 4, by omega⟩ ⟨t / 128, by omega⟩ ⟨t % 128, by omega⟩ j) := by
  pointwise [val_main_v86, val_main_v87, val_main_v88, val_main_v89]
end Cert.SwaRefIdeal.Read
-- ==== Proof.SwaValue.lean ====
module

public import proofs.«01_k».proof.Proof.SwaPoint
public import proofs.«01_k».proof.Proof.SwaRef
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaIdeal.Value
open Cert.SwaIdeal Cert.SwaIdeal.Gen Cert.SwaRefIdeal.Read

theorem exp_nonneg (x : EReal) : 0 ≤ Ideal.exp x := by
  induction x with
  | bot => exact le_refl _
  | top => exact le_top
  | coe r => exact EReal.coe_nonneg.mpr (Real.exp_pos r).le

/-- A product with `⊥` is `⊥`, `0` or `⊤`: twice it is itself. -/
theorem bot_mul_twice (v : EReal) : ⊥ * v + ⊥ * v = (⊥ : EReal) * v := by
  rcases lt_trichotomy v 0 with h | h | h
  · rw [EReal.bot_mul_of_neg h]; rfl
  · simp [h]
  · rw [EReal.bot_mul_of_pos h]; rfl

/-- Keys whose score is `⊥` and whose values repeat the other half's count for nothing, as if their values were zero. -/
theorem pad (s : Fin 256 → EReal) (sink : EReal) (V W : Fin 256 → EReal)
    (hs : ∀ j : Fin 256, j.val < 128 → s j = ⊥) (hW : ∀ j : Fin 256, j.val < 128 → W j = 0) (hV : ∀ j : Fin 256, ¬ j.val < 128 → V j = W j)
    (hr : ∀ i : Fin 128, V (Fin.castAdd 128 i) = V (Fin.natAdd 128 i)) :
    ∑ j, soft s sink j * V j = ∑ j, soft s sink j * W j := by
  unfold soft
  generalize max (Finset.fold max (Ideal.ofBits FTy.f32 4286578688#32) s Finset.univ) sink = M
  by_cases hd : ∑ x, Ideal.exp (s x - M) + Ideal.exp (sink - M) = 0
  · have h0 : ∀ j, Ideal.exp (s j - M) = 0 := fun j => by
      have h1 := (add_eq_zero_iff_of_nonneg (Finset.sum_nonneg fun x _ => exp_nonneg (s x - M)) (exp_nonneg _)).mp hd
      exact (Finset.sum_eq_zero_iff_of_nonneg fun x _ => exp_nonneg (s x - M)).mp h1.1 j (Finset.mem_univ j)
    have hb : Ideal.div 0 0 = ⊥ := by simp [Ideal.div]
    simp only [hd]
    simp only [h0, hb]
    have hX : ∀ i : Fin 128, W (Fin.natAdd 128 i) = V (Fin.natAdd 128 i) := fun i => (hV _ (by simp)).symm
    have h2 : ∀ i : Fin 128, W (Fin.castAdd 128 i) = 0 := fun i => hW _ i.isLt
    rw [Fin.sum_univ_add (a := 128) (b := 128), Fin.sum_univ_add (a := 128) (b := 128)]
    simp only [hr, hX, h2, mul_zero, Finset.sum_const_zero, zero_add]
    rw [← Finset.sum_add_distrib]
    exact Finset.sum_congr rfl fun i _ => bot_mul_twice _
  · refine Finset.sum_congr rfl fun j _ => ?_
    by_cases hj : j.val < 128
    · have e : Ideal.exp (s j - M) = 0 := by rw [hs j hj, sub_eq_add_neg, EReal.bot_add]; rfl
      rw [e, Ideal.div, if_neg hd, zero_mul, zero_mul, zero_mul]
    · rw [hV j hj]

variable (m : (ℓ : Loc nD τ sig) → Buf (Elt Ideal) ℓ)
abbrev A0 (c : Dev nD) : FVec Ideal S8x4096x4096 .bf16 := m ((c : Thread nD τ).loc main_arg0)
abbrev A1 (c : Dev nD) : FVec Ideal S1x16 .f32 := m ((c : Thread nD τ).loc main_arg1)
theorem idx : ∀ t : Fin cfg0.N, win0_0.index t = ![0] ∧ win0_1.index t = ![t.val / 32, t.val % 32, 2] ∧ win0_2.index t = ![t.val / 32, t.val % 32 - 1, 14]
   ∧ win0_3.index t = ![t.val / 32, t.val % 32, 14] ∧ win0_4.index t = ![t.val / 32, t.val % 32 - 1, 15] ∧ win0_5.index t = ![t.val / 32, t.val % 32, 15] ∧ win0_6.index t = ![t.val / 32, t.val % 32, 0] := by decide +kernel
theorem blk0 (c : Dev nD) (t : Fin cfg0.N) (y : S16.Idx) : iblk m c 0 t y = A1 m c (ix2 0 (y 0)) := by
  blk_point [iblk, V, idx t]
theorem blk1 (c : Dev nD) (t : Fin cfg0.N) (y : S1x128x1024.Idx) (b : Fin 8) (r l : Fin 4096) (hb : b.val = t.val / 32) (hr : r.val = t.val % 32 * 128 + y 1) (hl : l.val = 2048 + y 2) : iblk m c 1 t y = A0 m c (ix3 b r l) := by
  blk_point [iblk, V, idx t]
theorem blk2 (c : Dev nD) (t : Fin cfg0.N) (y : S1x128x256.Idx) (b : Fin 8) (r l : Fin 4096) (hb : b.val = t.val / 32) (hr : r.val = (t.val % 32 - 1) * 128 + y 1) (hl : l.val = 3584 + y 2) : iblk m c 2 t y = A0 m c (ix3 b r l) := by
  blk_point [iblk, V, idx t]
theorem blk3 (c : Dev nD) (t : Fin cfg0.N) (y : S1x128x256.Idx) (b : Fin 8) (r l : Fin 4096) (hb : b.val = t.val / 32) (hr : r.val = t.val % 32 * 128 + y 1) (hl : l.val = 3584 + y 2) : iblk m c 3 t y = A0 m c (ix3 b r l) := by
  blk_point [iblk, V, idx t]
theorem blk4 (c : Dev nD) (t : Fin cfg0.N) (y : S1x128x256.Idx) (b : Fin 8) (r l : Fin 4096) (hb : b.val = t.val / 32) (hr : r.val = (t.val % 32 - 1) * 128 + y 1) (hl : l.val = 3840 + y 2) : iblk m c 4 t y = A0 m c (ix3 b r l) := by
  blk_point [iblk, V, idx t]
theorem blk5 (c : Dev nD) (t : Fin cfg0.N) (y : S1x128x256.Idx) (b : Fin 8) (r l : Fin 4096) (hb : b.val = t.val / 32) (hr : r.val = t.val % 32 * 128 + y 1) (hl : l.val = 3840 + y 2) : iblk m c 5 t y = A0 m c (ix3 b r l) := by
  blk_point [iblk, V, idx t]

/-- The lanes of a row's query that one head reads. -/
def qAt (c : Dev nD) (t : Fin cfg0.N) (r : Fin 128) (l : Fin 1024) (d : Fin 64) : EReal := iblk m c 1 t (ix3 0 r ⟨l / 64 * 64 + d, by omega⟩)
/-- The lanes of a key that one head reads. -/
def kAt (c : Dev nD) (t : Fin cfg0.N) (j : Fin 256) (l : Fin 1024) (d : Fin 64) : EReal := cat (iblk m c 2 t) (iblk m c 3 t) j ⟨l / 256 * 64 + d, by omega⟩

theorem window_first (b : Fin 8) (n : Fin 32) (j e : Fin 256) (x : FVec Ideal S8x4096x4096 .bf16) (h : n.val = 0 ∧ j.val < 128) : window 3840 x b n j e (by decide) = 0 := by
  unfold window
  rw [dif_pos h.2, if_pos h.1]

section Point
variable (c : Dev nD) (t : Fin cfg0.N) (b : Fin 8) (n : Fin 32) (hb : b.val = t.val / 32) (hn : n.val = t.val % 32) (j e : Fin 256)
include hb hn

theorem keys (h : ¬(n.val = 0 ∧ j.val < 128)) : cat (iblk m c 2 t) (iblk m c 3 t) j e = window 3584 (A0 m c) b n j e (by decide) := by
  unfold cat window
  by_cases hj : j.val < 128
  · have h0 : n.val ≠ 0 := fun h0 => h ⟨h0, hj⟩
    rw [dif_pos hj, dif_pos hj, if_neg h0]
    exact blk2 m c t _ _ _ _ hb (by rw [← hn]; rfl) rfl
  · rw [dif_neg hj, dif_neg hj]
    exact blk3 m c t _ _ _ _ hb (by rw [← hn]; rfl) rfl

theorem values (h : ¬(n.val = 0 ∧ j.val < 128)) : cat (iblk m c 4 t) (iblk m c 5 t) j e = window 3840 (A0 m c) b n j e (by decide) := by
  unfold cat window
  by_cases hj : j.val < 128
  · have h0 : n.val ≠ 0 := fun h0 => h ⟨h0, hj⟩
    rw [dif_pos hj, dif_pos hj, if_neg h0]
    exact blk4 m c t _ _ _ _ hb (by rw [← hn]; rfl) rfl
  · rw [dif_neg hj, dif_neg hj]
    exact blk5 m c t _ _ _ _ hb (by rw [← hn]; rfl) rfl

/-- At a sequence's first block the block before it is the first block again. -/
theorem values_first (h : n.val = 0) (i : Fin 128) :
    cat (iblk m c 4 t) (iblk m c 5 t) (Fin.castAdd 128 i) e = cat (iblk m c 4 t) (iblk m c 5 t) (Fin.natAdd 128 i) e := by
  have h1 : (Fin.castAdd 128 i : Fin 256).val < 128 := i.isLt
  have h2 : ¬ (Fin.natAdd 128 i : Fin 256).val < 128 := by simp
  unfold cat
  rw [dif_pos h1, dif_neg h2]
  have hi : ((Fin.natAdd 128 i : Fin 256).val) = 128 + i := rfl
  have hc : ((Fin.castAdd 128 i : Fin 256).val) = i := rfl
  refine (blk4 m c t _ b ⟨i, by omega⟩ ⟨3840 + e, by omega⟩ hb ?_ rfl).trans (blk5 m c t _ b ⟨i, by omega⟩ ⟨3840 + e, by omega⟩ hb ?_ rfl).symm
  · show i.val = (t.val % 32 - 1) * 128 + (Fin.castAdd 128 i : Fin 256).val
    omega
  · show i.val = t.val % 32 * 128 + ((Fin.natAdd 128 i : Fin 256).val - 128)
    omega

variable (r : Fin 128) (l : Fin 1024)

/-- The scores of a row are the reference's. -/
theorem scores (q w : Fin 64 → EReal) (k : Fin 16) (g h : Fin 4) (hk : k.val = g * 4 + h)
    (hq : ∀ d : Fin 64, q d = A0 m c (ix3 b ⟨n * 128 + r, by omega⟩ ⟨2048 + (g * 256 + h * 64 + d), by omega⟩))
    (hw : ∀ d : Fin 64, w d = cat (iblk m c 2 t) (iblk m c 3 t) j ⟨g * 64 + d, by omega⟩) :
    ∑ d : Fin 64, q d * w d + biasAt k r j + firstBias n j
      = (val_main_v67 (F := Ideal) (A0 m c) (ix6 b g h n r j) : EReal) := by
  rw [vScore (A0 m c) b g h n r j k hk]
  unfold biasAt firstBias
  by_cases h0 : n.val = 0 ∧ j.val < 128
  · rw [if_pos h0, EReal.add_bot]
    exact (if_neg fun z => z.1 h0).symm
  · rw [if_neg h0, add_zero]
    by_cases hr : near r j
    · rw [if_pos hr, if_pos ⟨h0, hr⟩, EReal.neg_mul, ← sub_eq_add_neg]
      congr 1
      rw [vDot]
      refine Finset.sum_congr rfl fun d _ => ?_
      rw [hq, hw, keys m c t b n hb hn j _ h0, vKey (A0 m c) b n j g d ⟨g * 64 + d, by omega⟩ rfl]
      exact mul_comm _ _
    · rw [if_neg hr, if_neg (fun z => hr z.2), EReal.add_bot]

/-- A point's result is the reference's, at the row and the lane it belongs to. -/
theorem out_ref (T : Fin 4096) (hT : T.val = n * 128 + r) :
    blkRes (iblk m c 1 t) (iblk m c 0 t) (iblk m c 2 t) (iblk m c 3 t) (iblk m c 4 t) (iblk m c 5 t) biasB (t.val % 32) (ix3 0 r l)
      = val_main_v89 (F := Ideal) (A0 m c) (A1 m c) (ix3 b T l) := by
  have hTn : (⟨T / 128, by omega⟩ : Fin 32) = n := Fin.ext (by dsimp only; omega)
  have hTr : (⟨T % 128, by omega⟩ : Fin 128) = r := Fin.ext (by dsimp only; omega)
  rw [vOut, hTn, hTr, ← hn]
  obtain ⟨g, hg⟩ : ∃ g : Fin 4, g = ⟨l / 256, by omega⟩ := ⟨_, rfl⟩
  obtain ⟨h, hh⟩ : ∃ h : Fin 4, h = ⟨l / 64 % 4, by omega⟩ := ⟨_, rfl⟩
  obtain ⟨k, hk⟩ : ∃ k : Fin 16, k = ⟨l / 64, by omega⟩ := ⟨_, rfl⟩
  obtain ⟨e, he⟩ : ∃ e : Fin 256, e = ⟨l / 256 * 64 + l % 64, by omega⟩ := ⟨_, rfl⟩
  have hgv : g.val = l.val / 256 := by rw [hg]
  have hk' : k.val = g * 4 + h := by rw [hk, hg, hh]; dsimp only; omega
  have he' : e.val = g * 64 + (⟨l % 64, by omega⟩ : Fin 64) := by rw [he, hg]
  have hs : ∀ j : Fin 256, ∑ d : Fin 64, qAt m c t r l d * kAt m c t j l d + biasAt k r j + firstBias n j
      = (val_main_v67 (F := Ideal) (A0 m c) (ix6 b g h n r j) : EReal) := fun j =>
    scores m c t b n hb hn j r (qAt m c t r l) (kAt m c t j l) k g h hk'
      (fun d => blk1 m c t _ _ _ _ hb (by rw [← hn]; rfl) (by show 2048 + (g.val * 256 + h.val * 64 + d.val) = 2048 + (l.val / 64 * 64 + d.val); rw [hg, hh]; dsimp only; omega))
      (fun d => congrArg (cat _ _ j) (Fin.ext (by show l.val / 256 * 64 + d.val = g.val * 64 + d.val; rw [hgv])))
  have hsink : (iblk m c 0 t (ix1 k) : EReal) = A1 m c (ix2 0 k) := blk0 m c t _
  have hsoft : ∀ j, (val_main_v85 (F := Ideal) (A0 m c) (A1 m c) (ix6 b g h n r j) : EReal)
      = soft (fun j => val_main_v67 (F := Ideal) (A0 m c) (ix6 b g h n r j)) (A1 m c (ix2 0 k)) j := fun j => vSoft (A0 m c) (A1 m c) b g h n r j k hk'
  have hval : ∀ j, (val_main_v14 (F := Ideal) (A0 m c) (ix5 b n j g ⟨l % 64, by omega⟩) : EReal) = window 3840 (A0 m c) b n j e (by decide) := fun j =>
    vValue (A0 m c) b n j g _ e he'
  have hK : blkRes (iblk m c 1 t) (iblk m c 0 t) (iblk m c 2 t) (iblk m c 3 t) (iblk m c 4 t) (iblk m c 5 t) biasB n.val (ix3 0 r l)
      = ∑ j, soft (fun j => val_main_v67 (F := Ideal) (A0 m c) (ix6 b g h n r j)) (A1 m c (ix2 0 k)) j * cat (iblk m c 4 t) (iblk m c 5 t) j e := by
    rw [← hsink, ← funext hs]
    subst hk he
    rfl
  rw [hK]
  subst hg hh
  refine Eq.trans ?_ (Finset.sum_congr rfl fun j _ => ((congrArg₂ (· * ·) (hval j) (hsoft j)).trans (mul_comm _ _)).symm)
  by_cases h0 : n.val = 0
  · refine pad _ _ _ _ (fun j hj => ?_) (fun j hj => window_first b n j e _ ⟨h0, hj⟩) (fun j hj => values m c t b n hb hn j e fun z => hj z.2) (values_first m c t b n hb hn e h0)
    exact (vScore (A0 m c) b _ _ n r j k hk').trans (if_neg fun z => z.1 ⟨h0, hj⟩)
  · exact Finset.sum_congr rfl fun j _ => congrArg _ (values m c t b n hb hn j e fun z => h0 z.1)

end Point

/-- The kernel's result array is the reference's. -/
theorem final (c : Dev nD) : (dats m 0 c).arrAt 6 cfg0.N = val_main_v89 (F := Ideal) (A0 m c) (A1 m c) := by
  refine (dats m 0 c).arrAt_eq_of_covers 6 _ (by decide +kernel) fun t hf y => ?_
  have hN : t.val < 256 := lt_of_lt_of_eq t.isLt N_0
  have hy1 : (y 1 : ℕ) < 128 := (y 1).isLt
  have hy2 : (y 2 : ℕ) < 1024 := (y 2).isLt
  blk_simp
  rw [after0_6]
  have he : ((cfg0.win 6).blk t).view.emb y = ix3 ⟨t.val / 32, by omega⟩ ⟨t.val % 32 * 128 + y 1, by omega⟩ ⟨y 2, hy2⟩ := by
    blk_ext [idx t]
  refine ((out_at m c t y).trans ?_).trans (congrArg _ he.symm)
  refine Eq.trans (congrArg _ (at_coords y ⟨y 1, hy1⟩ ⟨y 2, hy2⟩ rfl rfl)) ?_
  exact out_ref m c t ⟨t.val / 32, by omega⟩ ⟨t.val % 32, by omega⟩ rfl rfl ⟨y 1, hy1⟩ ⟨y 2, hy2⟩ _ rfl

end Cert.SwaIdeal.Value
-- ==== Proof.lean ====
/- The certificate: the frames of the programs and the values of the kernels, put together. -/
module

public import proofs.«01_k».proof.Defs
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.MlpTwo
public import proofs.«01_k».proof.Proof.Gen.MlpTwo.Frame
public import proofs.«01_k».proof.Proof.Gen.MlpTwoIdeal
public import proofs.«01_k».proof.Proof.Gen.MlpTwoIdeal.Frame
public import proofs.«01_k».proof.Proof.Gen.MlpTwoIdeal.Value
public import proofs.«01_k».proof.Proof.Gen.MlpTwoRefIdeal.Run
public import proofs.«01_k».proof.Proof.Gen.MlpTwoRefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ProjDt
public import proofs.«01_k».proof.Proof.Gen.ProjDt.Frame
public import proofs.«01_k».proof.Proof.Gen.ProjDtIdeal
public import proofs.«01_k».proof.Proof.Gen.ProjDtIdeal.Frame
public import proofs.«01_k».proof.Proof.Gen.ProjDt.Skeleton
public import proofs.«01_k».proof.Proof.Gen.ProjDtIdeal.Skeleton
public import proofs.«01_k».proof.Proof.Gen.ProjDtIdeal.Points
public import proofs.«01_k».proof.Proof.Gen.ProjDt.Points
public import proofs.«01_k».proof.Proof.Gen.ProjDtRefIdeal.Run
public import proofs.«01_k».proof.Proof.Gen.ProjDtRefIdeal.Read
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.SwaIdeal.Value
public import proofs.«01_k».proof.Proof.Gen.SwaRefIdeal.Run
public import proofs.«01_k».proof.Proof.Gen.SwaRefIdeal.Read
public import proofs.«01_k».proof.Proof.MlpValue
public import proofs.«01_k».proof.Proof.MlpTwoValue
public import proofs.«01_k».proof.Proof.ProjValue
public import proofs.«01_k».proof.Proof.ProjDtValue
public import proofs.«01_k».proof.Proof.SwaValue
public import proofs.«01_k».proof.Proof.ProjDtFrame
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_MlpRefIdeal : quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem algebraic_MlpIdeal_MlpRefIdeal : algebraic_MlpIdeal_MlpRefIdeal := by
  intro m ρ m' ρ' _ hagree
  refine ⟨_, Cert.MlpIdeal.Value.run_blocks (F := Ideal) m ρ, ?_⟩
  refine (θ_run Cert.MlpRefIdeal.defs _ _).mono (fun _ h c => ⟨?_, (h c).2⟩) (Cert.MlpRefIdeal.Value.run (F := Ideal) m' ρ')
  rw [(h c).1]
  rw [Cert.MlpRefIdeal.Read.val_main_v27_eq]
  simp only [hagree c]
  exact (Cert.MlpIdeal.Value.final m c).symm

theorem quiescent_MlpTwoRefIdeal : quiescent_MlpTwoRefIdeal := fun m ρ _ =>
  (θ_run Cert.MlpTwoRefIdeal.defs _ _).mono (fun r h => ⟨fun c => (h c).2, sem_eq_zero_of_no_sems (by decide) r.2⟩)
    (Cert.MlpTwoRefIdeal.Value.run (F := Ideal) m ρ)

theorem algebraic_MlpTwoIdeal_MlpTwoRefIdeal : algebraic_MlpTwoIdeal_MlpTwoRefIdeal := by
  intro m ρ m' ρ' _ hagree
  refine ⟨_, Cert.MlpTwoIdeal.Value.run_blocks (F := Ideal) m ρ, ?_⟩
  refine (θ_run Cert.MlpTwoRefIdeal.defs _ _).mono (fun _ h c => ⟨?_, (h c).2⟩) (Cert.MlpTwoRefIdeal.Value.run (F := Ideal) m' ρ')
  rw [(h c).1]
  rw [Cert.MlpTwoRefIdeal.Read.val_main_v28_eq]
  simp only [hagree c]
  exact (Cert.MlpTwoIdeal.Value.final m c).symm

theorem quiescent_ProjRefIdeal : quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem algebraic_ProjIdeal_ProjRefIdeal : algebraic_ProjIdeal_ProjRefIdeal := by
  intro m ρ m' ρ' _ hagree
  refine ⟨_, Cert.ProjIdeal.Value.run_blocks (F := Ideal) m ρ, ?_⟩
  refine (θ_run Cert.ProjRefIdeal.defs _ _).mono (fun _ h c => ⟨?_, (h c).2⟩) (Cert.ProjRefIdeal.Value.run (F := Ideal) m' ρ')
  rw [(h c).1]
  rw [Cert.ProjRefIdeal.Read.val_main_v54_eq]
  simp only [hagree c]
  exact (Cert.ProjIdeal.Value.final m c).symm

theorem quiescent_ProjDtRefIdeal : quiescent_ProjDtRefIdeal := fun m ρ _ =>
  (θ_run Cert.ProjDtRefIdeal.defs _ _).mono (fun r h => ⟨fun c => (h c).2.2, sem_eq_zero_of_no_sems (by decide) r.2⟩)
    (Cert.ProjDtRefIdeal.Value.run (F := Ideal) m ρ)

theorem algebraic_ProjDtIdeal_ProjDtRefIdeal : algebraic_ProjDtIdeal_ProjDtRefIdeal := by
  intro m ρ m' ρ' _ hagree
  refine ⟨_, _, Cert.ProjDtIdeal.Value.run_results m ρ, ?_⟩
  refine (θ_run Cert.ProjDtRefIdeal.defs _ _).mono (fun _ h c => ⟨?_, ?_, (h c).2.2⟩) (Cert.ProjDtRefIdeal.Value.run (F := Ideal) m' ρ')
  · rw [(h c).1, Cert.ProjDtRefIdeal.Read.val_main_v58_eq]
    simp only [hagree c]
  · rw [(h c).2.1, Cert.ProjDtRefIdeal.Read.val_main_v60_eq]
    simp only [hagree c]

theorem quiescent_SwaRefIdeal : quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)

theorem algebraic_SwaIdeal_SwaRefIdeal : algebraic_SwaIdeal_SwaRefIdeal := by
  intro m ρ m' ρ' _ hagree
  refine ⟨_, Cert.SwaIdeal.Value.run_blocks (F := Ideal) m ρ, ?_⟩
  refine (θ_run Cert.SwaRefIdeal.defs _ _).mono (fun _ h c => ⟨?_, (h c).2⟩) (Cert.SwaRefIdeal.Value.run (F := Ideal) m' ρ')
  rw [(h c).1]
  rw [Cert.SwaRefIdeal.Read.val_main_v89_eq]
  simp only [hagree c]
  exact (Cert.SwaIdeal.Value.final m c).symm

theorem claim : Cert.Claim := ⟨Cert.Mlp.Gen.facts, Cert.MlpIdeal.Gen.facts, Cert.MlpRefIdeal.Gen.facts, Cert.MlpTwo.Gen.facts, Cert.MlpTwoIdeal.Gen.facts, Cert.MlpTwoRefIdeal.Gen.facts, Cert.Proj.Gen.facts, Cert.ProjIdeal.Gen.facts, Cert.ProjRefIdeal.Gen.facts, Cert.ProjDt.Gen.facts, Cert.ProjDtIdeal.Gen.facts, Cert.ProjDtRefIdeal.Gen.facts, Cert.Swa.Gen.facts, Cert.SwaIdeal.Gen.facts, Cert.SwaRefIdeal.Gen.facts,
  fun m ρ _ => Cert.Mlp.Gen.frame m ρ, fun m ρ _ => Cert.MlpIdeal.Gen.frame m ρ, quiescent_MlpRefIdeal,
  fun m ρ _ => Cert.MlpTwo.Gen.frame m ρ, fun m ρ _ => Cert.MlpTwoIdeal.Gen.frame m ρ, quiescent_MlpTwoRefIdeal,
  fun m ρ _ => Cert.Proj.Gen.frame m ρ, fun m ρ _ => Cert.ProjIdeal.Gen.frame m ρ, quiescent_ProjRefIdeal,
  fun m ρ _ => Cert.ProjDt.Body.frame m ρ, fun m ρ _ => Cert.ProjDtIdeal.Body.frame m ρ, quiescent_ProjDtRefIdeal,
  fun m ρ _ => Cert.Swa.Gen.frame m ρ, fun m ρ _ => Cert.SwaIdeal.Gen.frame m ρ, quiescent_SwaRefIdeal,
  (trivial : preserves_Mlp_MlpIdeal), algebraic_MlpIdeal_MlpRefIdeal,
  (trivial : preserves_MlpTwo_MlpTwoIdeal), algebraic_MlpTwoIdeal_MlpTwoRefIdeal,
  (trivial : preserves_Proj_ProjIdeal), algebraic_ProjIdeal_ProjRefIdeal,
  (trivial : preserves_ProjDt_ProjDtIdeal), algebraic_ProjDtIdeal_ProjDtRefIdeal,
  (⟨IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl⟩ : preserves_Swa_SwaIdeal), algebraic_SwaIdeal_SwaRefIdeal⟩

end Cert.Proof
